-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Kernel4Ideal_finite4 [hPre_finite4 : Cert.Pre_finite4.Facts] (m : (ℓ : Loc Cert.Kernel4Ideal.nD Cert.Kernel4Ideal.τ Cert.Kernel4Ideal.sig) → Buf (Elt Ideal) ℓ) : Prop :=
  ∀ c : Dev Cert.Kernel4Ideal.nD,
    (Cert.Pre_finite4.fn (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)) (m ((c.tc : Thread Cert.Kernel4Ideal.nD Cert.Kernel4Ideal.τ).loc Cert.Kernel4Ideal.main_arg3)) (m ((c.tc : Thread Cert.Kernel4Ideal.nD Cert.Kernel4Ideal.τ).loc Cert.Kernel4Ideal.main_arg4)) (m ((c.tc : Thread Cert.Kernel4Ideal.nD Cert.Kernel4Ideal.τ).loc Cert.Kernel4Ideal.main_arg5)) (m ((c.tc : Thread Cert.Kernel4Ideal.nD Cert.Kernel4Ideal.τ).loc Cert.Kernel4Ideal.main_arg6)) (m ((c.tc : Thread Cert.Kernel4Ideal.nD Cert.Kernel4Ideal.τ).loc Cert.Kernel4Ideal.main_arg7)) (m ((c.tc : Thread Cert.Kernel4Ideal.nD Cert.Kernel4Ideal.τ).loc Cert.Kernel4Ideal.main_arg8)) (m ((c.tc : Thread Cert.Kernel4Ideal.nD Cert.Kernel4Ideal.τ).loc Cert.Kernel4Ideal.main_arg9)) (m ((c.tc : Thread Cert.Kernel4Ideal.nD Cert.Kernel4Ideal.τ).loc Cert.Kernel4Ideal.main_arg10)) (m ((c.tc : Thread Cert.Kernel4Ideal.nD Cert.Kernel4Ideal.τ).loc Cert.Kernel4Ideal.main_arg11))) = (fun _ => 1#1)

def Pre_Reference4Ideal (m : (ℓ : Loc Cert.Reference4Ideal.nD Cert.Reference4Ideal.τ Cert.Reference4Ideal.sig) → Buf (Elt Ideal) ℓ) : Prop :=
  True

def Pre_Reference4Ideal_finite4 [hPre_finite4 : Cert.Pre_finite4.Facts] (m : (ℓ : Loc Cert.Reference4Ideal.nD Cert.Reference4Ideal.τ Cert.Reference4Ideal.sig) → Buf (Elt Ideal) ℓ) : Prop :=
  ∀ c : Dev Cert.Reference4Ideal.nD,
    (Cert.Pre_finite4.fn (F := Ideal) (m ((c.tc : Thread Cert.Reference4Ideal.nD Cert.Reference4Ideal.τ).loc Cert.Reference4Ideal.main_arg0)) (m ((c.tc : Thread Cert.Reference4Ideal.nD Cert.Reference4Ideal.τ).loc Cert.Reference4Ideal.main_arg1)) (m ((c.tc : Thread Cert.Reference4Ideal.nD Cert.Reference4Ideal.τ).loc Cert.Reference4Ideal.main_arg2)) (m ((c.tc : Thread Cert.Reference4Ideal.nD Cert.Reference4Ideal.τ).loc Cert.Reference4Ideal.main_arg3)) (m ((c.tc : Thread Cert.Reference4Ideal.nD Cert.Reference4Ideal.τ).loc Cert.Reference4Ideal.main_arg4)) (m ((c.tc : Thread Cert.Reference4Ideal.nD Cert.Reference4Ideal.τ).loc Cert.Reference4Ideal.main_arg5)) (m ((c.tc : Thread Cert.Reference4Ideal.nD Cert.Reference4Ideal.τ).loc Cert.Reference4Ideal.main_arg6)) (m ((c.tc : Thread Cert.Reference4Ideal.nD Cert.Reference4Ideal.τ).loc Cert.Reference4Ideal.main_arg7)) (m ((c.tc : Thread Cert.Reference4Ideal.nD Cert.Reference4Ideal.τ).loc Cert.Reference4Ideal.main_arg8)) (m ((c.tc : Thread Cert.Reference4Ideal.nD Cert.Reference4Ideal.τ).loc Cert.Reference4Ideal.main_arg9)) (m ((c.tc : Thread Cert.Reference4Ideal.nD Cert.Reference4Ideal.τ).loc Cert.Reference4Ideal.main_arg10)) (m ((c.tc : Thread Cert.Reference4Ideal.nD Cert.Reference4Ideal.τ).loc Cert.Reference4Ideal.main_arg11))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4)
      ∧ r.2.mem ((c.tc : Thread Cert.Kernel4.nD Cert.Kernel4.τ).loc Cert.Kernel4.main_arg5) = m ((c.tc : Thread Cert.Kernel4.nD Cert.Kernel4.τ).loc Cert.Kernel4.main_arg5)
      ∧ r.2.mem ((c.tc : Thread Cert.Kernel4.nD Cert.Kernel4.τ).loc Cert.Kernel4.main_arg6) = m ((c.tc : Thread Cert.Kernel4.nD Cert.Kernel4.τ).loc Cert.Kernel4.main_arg6)
      ∧ r.2.mem ((c.tc : Thread Cert.Kernel4.nD Cert.Kernel4.τ).loc Cert.Kernel4.main_arg7) = m ((c.tc : Thread Cert.Kernel4.nD Cert.Kernel4.τ).loc Cert.Kernel4.main_arg7)
      ∧ r.2.mem ((c.tc : Thread Cert.Kernel4.nD Cert.Kernel4.τ).loc Cert.Kernel4.main_arg8) = m ((c.tc : Thread Cert.Kernel4.nD Cert.Kernel4.τ).loc Cert.Kernel4.main_arg8)
      ∧ r.2.mem ((c.tc : Thread Cert.Kernel4.nD Cert.Kernel4.τ).loc Cert.Kernel4.main_arg9) = m ((c.tc : Thread Cert.Kernel4.nD Cert.Kernel4.τ).loc Cert.Kernel4.main_arg9)
      ∧ r.2.mem ((c.tc : Thread Cert.Kernel4.nD Cert.Kernel4.τ).loc Cert.Kernel4.main_arg10) = m ((c.tc : Thread Cert.Kernel4.nD Cert.Kernel4.τ).loc Cert.Kernel4.main_arg10)
      ∧ r.2.mem ((c.tc : Thread Cert.Kernel4.nD Cert.Kernel4.τ).loc Cert.Kernel4.main_arg11) = m ((c.tc : Thread Cert.Kernel4.nD Cert.Kernel4.τ).loc Cert.Kernel4.main_arg11))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
      ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
      ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7)
      ∧ r.2.mem ((c.tc : Thread Cert.Kernel4Ideal.nD Cert.Kernel4Ideal.τ).loc Cert.Kernel4Ideal.main_arg8) = m ((c.tc : Thread Cert.Kernel4Ideal.nD Cert.Kernel4Ideal.τ).loc Cert.Kernel4Ideal.main_arg8)
      ∧ r.2.mem ((c.tc : Thread Cert.Kernel4Ideal.nD Cert.Kernel4Ideal.τ).loc Cert.Kernel4Ideal.main_arg9) = m ((c.tc : Thread Cert.Kernel4Ideal.nD Cert.Kernel4Ideal.τ).loc Cert.Kernel4Ideal.main_arg9)
      ∧ r.2.mem ((c.tc : Thread Cert.Kernel4Ideal.nD Cert.Kernel4Ideal.τ).loc Cert.Kernel4Ideal.main_arg10) = m ((c.tc : Thread Cert.Kernel4Ideal.nD Cert.Kernel4Ideal.τ).loc Cert.Kernel4Ideal.main_arg10)
      ∧ r.2.mem ((c.tc : Thread Cert.Kernel4Ideal.nD Cert.Kernel4Ideal.τ).loc Cert.Kernel4Ideal.main_arg11) = m ((c.tc : Thread Cert.Kernel4Ideal.nD Cert.Kernel4Ideal.τ).loc Cert.Kernel4Ideal.main_arg11))
      ∧ r.2.sem = fun _ => 0)

def quiescent_Kernel4Ideal_pre_finite4 [hKernel4Ideal : Cert.Kernel4Ideal.Facts] [hPre_finite4 : Cert.Pre_finite4.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal_finite4 m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
      ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
      ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7)
      ∧ r.2.mem ((c.tc : Thread Cert.Kernel4Ideal.nD Cert.Kernel4Ideal.τ).loc Cert.Kernel4Ideal.main_arg8) = m ((c.tc : Thread Cert.Kernel4Ideal.nD Cert.Kernel4Ideal.τ).loc Cert.Kernel4Ideal.main_arg8)
      ∧ r.2.mem ((c.tc : Thread Cert.Kernel4Ideal.nD Cert.Kernel4Ideal.τ).loc Cert.Kernel4Ideal.main_arg9) = m ((c.tc : Thread Cert.Kernel4Ideal.nD Cert.Kernel4Ideal.τ).loc Cert.Kernel4Ideal.main_arg9)
      ∧ r.2.mem ((c.tc : Thread Cert.Kernel4Ideal.nD Cert.Kernel4Ideal.τ).loc Cert.Kernel4Ideal.main_arg10) = m ((c.tc : Thread Cert.Kernel4Ideal.nD Cert.Kernel4Ideal.τ).loc Cert.Kernel4Ideal.main_arg10)
      ∧ r.2.mem ((c.tc : Thread Cert.Kernel4Ideal.nD Cert.Kernel4Ideal.τ).loc Cert.Kernel4Ideal.main_arg11) = m ((c.tc : Thread Cert.Kernel4Ideal.nD Cert.Kernel4Ideal.τ).loc Cert.Kernel4Ideal.main_arg11))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5)
      ∧ r.2.mem ((c.tc : Thread Cert.Reference4Ideal.nD Cert.Reference4Ideal.τ).loc Cert.Reference4Ideal.main_arg6) = m ((c.tc : Thread Cert.Reference4Ideal.nD Cert.Reference4Ideal.τ).loc Cert.Reference4Ideal.main_arg6)
      ∧ r.2.mem ((c.tc : Thread Cert.Reference4Ideal.nD Cert.Reference4Ideal.τ).loc Cert.Reference4Ideal.main_arg7) = m ((c.tc : Thread Cert.Reference4Ideal.nD Cert.Reference4Ideal.τ).loc Cert.Reference4Ideal.main_arg7)
      ∧ r.2.mem ((c.tc : Thread Cert.Reference4Ideal.nD Cert.Reference4Ideal.τ).loc Cert.Reference4Ideal.main_arg8) = m ((c.tc : Thread Cert.Reference4Ideal.nD Cert.Reference4Ideal.τ).loc Cert.Reference4Ideal.main_arg8)
      ∧ r.2.mem ((c.tc : Thread Cert.Reference4Ideal.nD Cert.Reference4Ideal.τ).loc Cert.Reference4Ideal.main_arg9) = m ((c.tc : Thread Cert.Reference4Ideal.nD Cert.Reference4Ideal.τ).loc Cert.Reference4Ideal.main_arg9)
      ∧ r.2.mem ((c.tc : Thread Cert.Reference4Ideal.nD Cert.Reference4Ideal.τ).loc Cert.Reference4Ideal.main_arg10) = m ((c.tc : Thread Cert.Reference4Ideal.nD Cert.Reference4Ideal.τ).loc Cert.Reference4Ideal.main_arg10)
      ∧ r.2.mem ((c.tc : Thread Cert.Reference4Ideal.nD Cert.Reference4Ideal.τ).loc Cert.Reference4Ideal.main_arg11) = m ((c.tc : Thread Cert.Reference4Ideal.nD Cert.Reference4Ideal.τ).loc Cert.Reference4Ideal.main_arg11))
      ∧ r.2.sem = fun _ => 0)

def quiescent_Reference4Ideal_pre_finite4 [hReference4Ideal : Cert.Reference4Ideal.Facts] [hPre_finite4 : Cert.Pre_finite4.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal_finite4 m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5)
      ∧ r.2.mem ((c.tc : Thread Cert.Reference4Ideal.nD Cert.Reference4Ideal.τ).loc Cert.Reference4Ideal.main_arg6) = m ((c.tc : Thread Cert.Reference4Ideal.nD Cert.Reference4Ideal.τ).loc Cert.Reference4Ideal.main_arg6)
      ∧ r.2.mem ((c.tc : Thread Cert.Reference4Ideal.nD Cert.Reference4Ideal.τ).loc Cert.Reference4Ideal.main_arg7) = m ((c.tc : Thread Cert.Reference4Ideal.nD Cert.Reference4Ideal.τ).loc Cert.Reference4Ideal.main_arg7)
      ∧ r.2.mem ((c.tc : Thread Cert.Reference4Ideal.nD Cert.Reference4Ideal.τ).loc Cert.Reference4Ideal.main_arg8) = m ((c.tc : Thread Cert.Reference4Ideal.nD Cert.Reference4Ideal.τ).loc Cert.Reference4Ideal.main_arg8)
      ∧ r.2.mem ((c.tc : Thread Cert.Reference4Ideal.nD Cert.Reference4Ideal.τ).loc Cert.Reference4Ideal.main_arg9) = m ((c.tc : Thread Cert.Reference4Ideal.nD Cert.Reference4Ideal.τ).loc Cert.Reference4Ideal.main_arg9)
      ∧ r.2.mem ((c.tc : Thread Cert.Reference4Ideal.nD Cert.Reference4Ideal.τ).loc Cert.Reference4Ideal.main_arg10) = m ((c.tc : Thread Cert.Reference4Ideal.nD Cert.Reference4Ideal.τ).loc Cert.Reference4Ideal.main_arg10)
      ∧ r.2.mem ((c.tc : Thread Cert.Reference4Ideal.nD Cert.Reference4Ideal.τ).loc Cert.Reference4Ideal.main_arg11) = m ((c.tc : Thread Cert.Reference4Ideal.nD Cert.Reference4Ideal.τ).loc Cert.Reference4Ideal.main_arg11))
      ∧ r.2.sem = fun _ => 0)

def preserves_Kernel_KernelIdeal : Prop :=
  IdealRules.named_const.Statement Cert.KernelIdeal.κ "mask" .f32 0xF149F2CA#32 ⊥

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v120) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)) →
    ∃ (v0 : (c : Dev Cert.Kernel2Ideal.nD) → Buf (Elt Ideal) ((c.tc : Thread Cert.Kernel2Ideal.nD Cert.Kernel2Ideal.τ).loc Cert.Kernel2Ideal.main_v1)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v1) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v26) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)) →
    ∃ (v0 : (c : Dev Cert.Kernel3Ideal.nD) → Buf (Elt Ideal) ((c.tc : Thread Cert.Kernel3Ideal.nD Cert.Kernel3Ideal.τ).loc Cert.Kernel3Ideal.main_v1_0)) (v1 : (c : Dev Cert.Kernel3Ideal.nD) → Buf (Elt Ideal) ((c.tc : Thread Cert.Kernel3Ideal.nD Cert.Kernel3Ideal.τ).loc Cert.Kernel3Ideal.main_v1_1)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v1_0) = v0 c
          ∧ r.2.mem ((c.tc : Thread Cert.Kernel3Ideal.nD Cert.Kernel3Ideal.τ).loc Cert.Kernel3Ideal.main_v1_1) = v1 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v20) = v0 c
          ∧ r.2.mem ((c.tc : Thread Cert.Reference3Ideal.nD Cert.Reference3Ideal.τ).loc Cert.Reference3Ideal.main_v16) = v1 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2))

def preserves_Kernel4_Kernel4Ideal : Prop :=
  True

def algebraic_Kernel4Ideal_Reference4Ideal_pre_finite4 [hKernel4Ideal : Cert.Kernel4Ideal.Facts] [hReference4Ideal : Cert.Reference4Ideal.Facts] [hPre_finite4 : Cert.Pre_finite4.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal_finite4 m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)
      ∧ m' ((c.tc : Thread Cert.Reference4Ideal.nD Cert.Reference4Ideal.τ).loc Cert.Reference4Ideal.main_arg5) = m ((c.tc : Thread Cert.Kernel4Ideal.nD Cert.Kernel4Ideal.τ).loc Cert.Kernel4Ideal.main_arg5)
      ∧ m' ((c.tc : Thread Cert.Reference4Ideal.nD Cert.Reference4Ideal.τ).loc Cert.Reference4Ideal.main_arg6) = m ((c.tc : Thread Cert.Kernel4Ideal.nD Cert.Kernel4Ideal.τ).loc Cert.Kernel4Ideal.main_arg6)
      ∧ m' ((c.tc : Thread Cert.Reference4Ideal.nD Cert.Reference4Ideal.τ).loc Cert.Reference4Ideal.main_arg7) = m ((c.tc : Thread Cert.Kernel4Ideal.nD Cert.Kernel4Ideal.τ).loc Cert.Kernel4Ideal.main_arg7)
      ∧ m' ((c.tc : Thread Cert.Reference4Ideal.nD Cert.Reference4Ideal.τ).loc Cert.Reference4Ideal.main_arg8) = m ((c.tc : Thread Cert.Kernel4Ideal.nD Cert.Kernel4Ideal.τ).loc Cert.Kernel4Ideal.main_arg8)
      ∧ m' ((c.tc : Thread Cert.Reference4Ideal.nD Cert.Reference4Ideal.τ).loc Cert.Reference4Ideal.main_arg9) = m ((c.tc : Thread Cert.Kernel4Ideal.nD Cert.Kernel4Ideal.τ).loc Cert.Kernel4Ideal.main_arg9)
      ∧ m' ((c.tc : Thread Cert.Reference4Ideal.nD Cert.Reference4Ideal.τ).loc Cert.Reference4Ideal.main_arg10) = m ((c.tc : Thread Cert.Kernel4Ideal.nD Cert.Kernel4Ideal.τ).loc Cert.Kernel4Ideal.main_arg10)
      ∧ m' ((c.tc : Thread Cert.Reference4Ideal.nD Cert.Reference4Ideal.τ).loc Cert.Reference4Ideal.main_arg11) = m ((c.tc : Thread Cert.Kernel4Ideal.nD Cert.Kernel4Ideal.τ).loc Cert.Kernel4Ideal.main_arg11)) →
    ∃ (v0 : (c : Dev Cert.Kernel4Ideal.nD) → Buf (Elt Ideal) ((c.tc : Thread Cert.Kernel4Ideal.nD Cert.Kernel4Ideal.τ).loc Cert.Kernel4Ideal.main_v1)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v1) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
          ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
          ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
          ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7)
          ∧ r.2.mem ((c.tc : Thread Cert.Kernel4Ideal.nD Cert.Kernel4Ideal.τ).loc Cert.Kernel4Ideal.main_arg8) = m ((c.tc : Thread Cert.Kernel4Ideal.nD Cert.Kernel4Ideal.τ).loc Cert.Kernel4Ideal.main_arg8)
          ∧ r.2.mem ((c.tc : Thread Cert.Kernel4Ideal.nD Cert.Kernel4Ideal.τ).loc Cert.Kernel4Ideal.main_arg9) = m ((c.tc : Thread Cert.Kernel4Ideal.nD Cert.Kernel4Ideal.τ).loc Cert.Kernel4Ideal.main_arg9)
          ∧ r.2.mem ((c.tc : Thread Cert.Kernel4Ideal.nD Cert.Kernel4Ideal.τ).loc Cert.Kernel4Ideal.main_arg10) = m ((c.tc : Thread Cert.Kernel4Ideal.nD Cert.Kernel4Ideal.τ).loc Cert.Kernel4Ideal.main_arg10)
          ∧ r.2.mem ((c.tc : Thread Cert.Kernel4Ideal.nD Cert.Kernel4Ideal.τ).loc Cert.Kernel4Ideal.main_arg11) = m ((c.tc : Thread Cert.Kernel4Ideal.nD Cert.Kernel4Ideal.τ).loc Cert.Kernel4Ideal.main_arg11))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v58) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4)
          ∧ r.2.mem ((c.tc : Thread Cert.Reference4Ideal.nD Cert.Reference4Ideal.τ).loc Cert.Reference4Ideal.main_arg5) = m' ((c.tc : Thread Cert.Reference4Ideal.nD Cert.Reference4Ideal.τ).loc Cert.Reference4Ideal.main_arg5)
          ∧ r.2.mem ((c.tc : Thread Cert.Reference4Ideal.nD Cert.Reference4Ideal.τ).loc Cert.Reference4Ideal.main_arg6) = m' ((c.tc : Thread Cert.Reference4Ideal.nD Cert.Reference4Ideal.τ).loc Cert.Reference4Ideal.main_arg6)
          ∧ r.2.mem ((c.tc : Thread Cert.Reference4Ideal.nD Cert.Reference4Ideal.τ).loc Cert.Reference4Ideal.main_arg7) = m' ((c.tc : Thread Cert.Reference4Ideal.nD Cert.Reference4Ideal.τ).loc Cert.Reference4Ideal.main_arg7)
          ∧ r.2.mem ((c.tc : Thread Cert.Reference4Ideal.nD Cert.Reference4Ideal.τ).loc Cert.Reference4Ideal.main_arg8) = m' ((c.tc : Thread Cert.Reference4Ideal.nD Cert.Reference4Ideal.τ).loc Cert.Reference4Ideal.main_arg8)
          ∧ r.2.mem ((c.tc : Thread Cert.Reference4Ideal.nD Cert.Reference4Ideal.τ).loc Cert.Reference4Ideal.main_arg9) = m' ((c.tc : Thread Cert.Reference4Ideal.nD Cert.Reference4Ideal.τ).loc Cert.Reference4Ideal.main_arg9)
          ∧ r.2.mem ((c.tc : Thread Cert.Reference4Ideal.nD Cert.Reference4Ideal.τ).loc Cert.Reference4Ideal.main_arg10) = m' ((c.tc : Thread Cert.Reference4Ideal.nD Cert.Reference4Ideal.τ).loc Cert.Reference4Ideal.main_arg10)
          ∧ r.2.mem ((c.tc : Thread Cert.Reference4Ideal.nD Cert.Reference4Ideal.τ).loc Cert.Reference4Ideal.main_arg11) = m' ((c.tc : Thread Cert.Reference4Ideal.nD Cert.Reference4Ideal.τ).loc Cert.Reference4Ideal.main_arg11))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hPre_finite : Cert.Pre_finite.Facts) (hPre_finite4 : Cert.Pre_finite4.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Kernel4Ideal_pre_finite4 (hKernel4Ideal := hKernel4Ideal) (hPre_finite4 := hPre_finite4)
    ∧ quiescent_Reference4Ideal (hReference4Ideal := hReference4Ideal)
    ∧ quiescent_Reference4Ideal_pre_finite4 (hReference4Ideal := hReference4Ideal) (hPre_finite4 := hPre_finite4)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal_pre_finite4 (hKernel4Ideal := hKernel4Ideal) (hReference4Ideal := hReference4Ideal) (hPre_finite4 := hPre_finite4)
-- ==== Pre_finite.lean ====
abbrev S1x17408x1536 : Shape := ⟨3, ![1, 17408, 1536]⟩
abbrev S16 : Shape := ⟨1, ![16]⟩
abbrev S1x16384x1280 : Shape := ⟨3, ![1, 16384, 1280]⟩
abbrev S16384x1280 : Shape := ⟨2, ![16384, 1280]⟩
abbrev S_ : Shape := ⟨0, ![]⟩

class Facts : Prop where
  slices_S1x17408x1536_S1x16384x1280_0_0_0 : S1x17408x1536.Slices ![0, 0, 0] S1x16384x1280
  shapeCasts_S1x16384x1280_S16384x1280 : S1x16384x1280.ShapeCasts S16384x1280
  bitsLt_bf16_f32 : FTy.bits .bf16 < FTy.bits .f32
  bcast_S_S16384x1280 : S_.BroadcastsInDim S16384x1280 (![] : Fin 0 → Fin S16384x1280.rank)
  reducesTo_S16384x1280_S_d0_1 : S16384x1280.ReducesTo [0, 1] S_
  h_S_ : 0 < S_.numel
  bcast_S_S16 : S_.BroadcastsInDim S16 (![] : Fin 0 → Fin S16.rank)
  reducesTo_S16_S_d0 : S16.ReducesTo [0] S_

variable [Facts]

def fn {F : FTy → Type} [FloatOps F] (main_arg0 : FVec F S1x17408x1536 .bf16) (main_arg1 : FVec F S16 .f32) : IVec S_ 1 :=
  let main_v0 : FVec F S1x16384x1280 .bf16 := (extractStridedSlice S1x16384x1280 ![0, 0, 0] · slices_S1x17408x1536_S1x16384x1280_0_0_0) main_arg0
  let main_v1 : FVec F S16384x1280 .bf16 := shapeCast S16384x1280 main_v0 shapeCasts_S1x16384x1280_S16384x1280
  let main_v2 : FVec F S16384x1280 .f32 := (extf .f32 · bitsLt_bf16_f32) main_v1
  let main_v3 : FVec F S16384x1280 .f32 := Host.absf main_v2
  let main_cst : FVec F S_ .f32 := constant S_ .f32 0x7F800000#32
  let main_v4 : FVec F S16384x1280 .f32 := broadcastInDim S16384x1280 ![] bcast_S_S16384x1280 main_cst
  let main_v5 : IVec S16384x1280 1 := cmpf .olt main_v3 main_v4
  let main_c : IVec S_ 1 := constantI S_ 1 1#1
  let main_v6 : IVec S_ 1 := (fun x v => Host.reduce IntOp.andi x v reducesTo_S16384x1280_S_d0_1 h_S_) main_v5 main_c
  let main_cst_0 : FVec F S_ .f32 := constant S_ .f32 0x7F800000#32
  let main_v7 : FVec F S16 .f32 := broadcastInDim S16 ![] bcast_S_S16 main_cst_0
  let main_v8 : IVec S16 1 := cmpf .olt main_arg1 main_v7
  let main_c_1 : IVec S_ 1 := constantI S_ 1 1#1
  let main_v9 : IVec S_ 1 := (fun x v => Host.reduce IntOp.andi x v reducesTo_S16_S_d0 h_S_) main_v8 main_c_1
  let main_v10 : IVec S_ 1 := andi main_v6 main_v9
  main_v10
-- ==== Pre_finite4.lean ====
abbrev S17408x1024 : Shape := ⟨2, ![17408, 1024]⟩
abbrev S512x1024 : Shape := ⟨2, ![512, 1024]⟩
abbrev S1024 : Shape := ⟨1, ![1024]⟩
abbrev S1024x5632 : Shape := ⟨2, ![1024, 5632]⟩
abbrev S2816x1024 : Shape := ⟨2, ![2816, 1024]⟩
abbrev S1x16384x512 : Shape := ⟨3, ![1, 16384, 512]⟩
abbrev S4x4096x512 : Shape := ⟨3, ![4, 4096, 512]⟩
abbrev S16x1024x512 : Shape := ⟨3, ![16, 1024, 512]⟩
abbrev S1024x512 : Shape := ⟨2, ![1024, 512]⟩
abbrev S_ : Shape := ⟨0, ![]⟩

class Facts : Prop where
  bcast_S_S1x16384x512 : S_.BroadcastsInDim S1x16384x512 (![] : Fin 0 → Fin S1x16384x512.rank)
  reducesTo_S1x16384x512_S_d0_1_2 : S1x16384x512.ReducesTo [0, 1, 2] S_
  h_S_ : 0 < S_.numel
  bcast_S_S4x4096x512 : S_.BroadcastsInDim S4x4096x512 (![] : Fin 0 → Fin S4x4096x512.rank)
  reducesTo_S4x4096x512_S_d0_1_2 : S4x4096x512.ReducesTo [0, 1, 2] S_
  bcast_S_S16x1024x512 : S_.BroadcastsInDim S16x1024x512 (![] : Fin 0 → Fin S16x1024x512.rank)
  reducesTo_S16x1024x512_S_d0_1_2 : S16x1024x512.ReducesTo [0, 1, 2] S_

variable [Facts]

def fn {F : FTy → Type} [FloatOps F] (main_arg0 : FVec F S17408x1024 .f32) (main_arg1 : FVec F S512x1024 .bf16) (main_arg2 : FVec F S1024 .f32) (main_arg3 : FVec F S1024x5632 .bf16) (main_arg4 : FVec F S2816x1024 .bf16) (main_arg5 : FVec F S1x16384x512 .f32) (main_arg6 : FVec F S1x16384x512 .f32) (main_arg7 : FVec F S4x4096x512 .f32) (main_arg8 : FVec F S4x4096x512 .f32) (main_arg9 : FVec F S16x1024x512 .f32) (main_arg10 : FVec F S16x1024x512 .f32) (main_arg11 : FVec F S1024x512 .f32) : IVec S_ 1 :=
  let main_v0 : FVec F S1x16384x512 .f32 := Host.absf main_arg6
  let main_cst : FVec F S_ .f32 := constant S_ .f32 0x7F800000#32
  let main_v1 : FVec F S1x16384x512 .f32 := broadcastInDim S1x16384x512 ![] bcast_S_S1x16384x512 main_cst
  let main_v2 : IVec S1x16384x512 1 := cmpf .olt main_v0 main_v1
  let main_c : IVec S_ 1 := constantI S_ 1 1#1
  let main_v3 : IVec S_ 1 := (fun x v => Host.reduce IntOp.andi x v reducesTo_S1x16384x512_S_d0_1_2 h_S_) main_v2 main_c
  let main_v4 : FVec F S4x4096x512 .f32 := Host.absf main_arg8
  let main_cst_0 : FVec F S_ .f32 := constant S_ .f32 0x7F800000#32
  let main_v5 : FVec F S4x4096x512 .f32 := broadcastInDim S4x4096x512 ![] bcast_S_S4x4096x512 main_cst_0
  let main_v6 : IVec S4x4096x512 1 := cmpf .olt main_v4 main_v5
  let main_c_1 : IVec S_ 1 := constantI S_ 1 1#1
  let main_v7 : IVec S_ 1 := (fun x v => Host.reduce IntOp.andi x v reducesTo_S4x4096x512_S_d0_1_2 h_S_) main_v6 main_c_1
  let main_v8 : IVec S_ 1 := andi main_v3 main_v7
  let main_v9 : FVec F S16x1024x512 .f32 := Host.absf main_arg10
  let main_cst_2 : FVec F S_ .f32 := constant S_ .f32 0x7F800000#32
  let main_v10 : FVec F S16x1024x512 .f32 := broadcastInDim S16x1024x512 ![] bcast_S_S16x1024x512 main_cst_2
  let main_v11 : IVec S16x1024x512 1 := cmpf .olt main_v9 main_v10
  let main_c_3 : IVec S_ 1 := constantI S_ 1 1#1
  let main_v12 : IVec S_ 1 := (fun x v => Host.reduce IntOp.andi x v reducesTo_S16x1024x512_S_d0_1_2 h_S_) main_v11 main_c_3
  let main_v13 : IVec S_ 1 := andi main_v8 main_v12
  main_v13
-- ==== Kernel.lean ====
abbrev S1x17408x1536 : Shape := ⟨3, ![1, 17408, 1536]⟩
abbrev S16 : Shape := ⟨1, ![16]⟩
abbrev S1x16384x1024 : Shape := ⟨3, ![1, 16384, 1024]⟩
abbrev S1x128x1024 : Shape := ⟨3, ![1, 128, 1024]⟩
abbrev S1x128x256 : Shape := ⟨3, ![1, 128, 256]⟩
abbrev S256x128 : Shape := ⟨2, ![256, 128]⟩
abbrev S256x1 : Shape := ⟨2, ![256, 1]⟩
abbrev S128x128 : Shape := ⟨2, ![128, 128]⟩
abbrev S1x128x128 : Shape := ⟨3, ![1, 128, 128]⟩
abbrev S256 : Shape := ⟨1, ![256]⟩
abbrev S1 : Shape := ⟨1, ![1]⟩

abbrev nBuf : Space → Nat
  | .hbm => 3
  | .vmem => 12
  | .smem => 1
  | _ => 0

abbrev bufTy : (tb : Table) → Fin (tcTables nBuf tb) → BufTy
  | .hbm, ⟨0, _⟩ => ⟨S1x17408x1536, .bf16⟩
  | .hbm, ⟨1, _⟩ => ⟨S16, .f32⟩
  | .hbm, ⟨2, _⟩ => ⟨S1x16384x1024, .bf16⟩
  | .local _ .vmem, ⟨0, _⟩ => ⟨S1x128x1024, .bf16⟩
  | .local _ .vmem, ⟨1, _⟩ => ⟨S1x128x1024, .bf16⟩
  | .local _ .vmem, ⟨2, _⟩ => ⟨S1x128x256, .bf16⟩
  | .local _ .vmem, ⟨3, _⟩ => ⟨S1x128x256, .bf16⟩
  | .local _ .vmem, ⟨4, _⟩ => ⟨S1x128x256, .bf16⟩
  | .local _ .vmem, ⟨5, _⟩ => ⟨S1x128x256, .bf16⟩
  | .local _ .vmem, ⟨6, _⟩ => ⟨S1x128x256, .bf16⟩
  | .local _ .vmem, ⟨7, _⟩ => ⟨S1x128x256, .bf16⟩
  | .local _ .vmem, ⟨8, _⟩ => ⟨S1x128x256, .bf16⟩
  | .local _ .vmem, ⟨9, _⟩ => ⟨S1x128x256, .bf16⟩
  | .local _ .vmem, ⟨10, _⟩ => ⟨S1x128x1024, .bf16⟩
  | .local _ .vmem, ⟨11, _⟩ => ⟨S1x128x1024, .bf16⟩
  | .local _ .smem, ⟨0, _⟩ => ⟨S16, .f32⟩
  | _, _ => ⟨S1x17408x1536, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .smem, ⟨0, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg5_0 : Ref sig .tc := ⟨.smem, 0, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem6_1 : DmaSem sig := 12

abbrev nD : Nat := 1
abbrev τ : Topo := Topo.v7x

variable {F : FTy → Type} [FloatOps F]

abbrev grid0 : Pipeline.Grid := ⟨3, ![2, 1, 64], ![false, false, false]⟩

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c64_i32 : BitVec 32 := 64#32
  let v0 : BitVec 32 := Scalar.muli arg0 c64_i32
  let v1 : BitVec 32 := Scalar.addi v0 arg2
  let c0_i32 : BitVec 32 := 0#32
  let c0_i32_0 : BitVec 32 := 0#32
  ![arg1.toNat, v1.toNat, c0_i32.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c64_i32 : BitVec 32 := 64#32
  let v0 : BitVec 32 := Scalar.muli arg0 c64_i32
  let c1_i32 : BitVec 32 := 1#32
  let v1 : BitVec 32 := Scalar.subi arg2 c1_i32
  let c0_i32 : BitVec 32 := 0#32
  let v2 : BitVec 32 := Scalar.maxsi v1 c0_i32
  let v3 : BitVec 32 := Scalar.addi v0 v2
  let c4_i32 : BitVec 32 := 4#32
  let c0_i32_0 : BitVec 32 := 0#32
  ![arg1.toNat, v3.toNat, c4_i32.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c64_i32 : BitVec 32 := 64#32
  let v0 : BitVec 32 := Scalar.muli arg0 c64_i32
  let v1 : BitVec 32 := Scalar.addi v0 arg2
  let c4_i32 : BitVec 32 := 4#32
  let c0_i32 : BitVec 32 := 0#32
  ![arg1.toNat, v1.toNat, c4_i32.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c64_i32 : BitVec 32 := 64#32
  let v0 : BitVec 32 := Scalar.muli arg0 c64_i32
  let c1_i32 : BitVec 32 := 1#32
  let v1 : BitVec 32 := Scalar.subi arg2 c1_i32
  let c0_i32 : BitVec 32 := 0#32
  let v2 : BitVec 32 := Scalar.maxsi v1 c0_i32
  let v3 : BitVec 32 := Scalar.addi v0 v2
  let c5_i32 : BitVec 32 := 5#32
  let c0_i32_0 : BitVec 32 := 0#32
  ![arg1.toNat, v3.toNat, c5_i32.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c64_i32 : BitVec 32 := 64#32
  let v0 : BitVec 32 := Scalar.muli arg0 c64_i32
  let v1 : BitVec 32 := Scalar.addi v0 arg2
  let c5_i32 : BitVec 32 := 5#32
  let c0_i32 : BitVec 32 := 0#32
  ![arg1.toNat, v1.toNat, c5_i32.toNat]

def cc0_transform_5 (i : grid0.Coords) : Fin 1 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat]

def cc0_transform_6 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c64_i32 : BitVec 32 := 64#32
  let v0 : BitVec 32 := Scalar.muli arg0 c64_i32
  let v1 : BitVec 32 := Scalar.addi v0 arg2
  let c0_i32 : BitVec 32 := 0#32
  let c0_i32_0 : BitVec 32 := 0#32
  ![arg1.toNat, v1.toNat, c0_i32.toNat]

abbrev stage0_0 : Fin 2 → Memref sig .tc .vmem S1x128x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x128x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, true]

abbrev stage0_2 : Fin 2 → Memref sig .tc .vmem S1x128x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true]

abbrev stage0_3 : Fin 2 → Memref sig .tc .vmem S1x128x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]

abbrev stage0_4 : Fin 2 → Memref sig .tc .vmem S1x128x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]

abbrev stage0_5 : Fin 1 → Memref sig .tc .smem S16 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false, false]

abbrev stage0_6 : Fin 2 → Memref sig .tc .vmem S1x128x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, true]
-- ==== KernelIdeal.lean ====
variable {F : FTy → Type} [FloatOps F] [Named F]
def κ : String → Option EReal := fun
  | "mask" => some ⊥
  | _ => none
-- ==== ReferenceIdeal.lean ====
abbrev S1x17408x1536 : Shape := ⟨3, ![1, 17408, 1536]⟩
abbrev S16 : Shape := ⟨1, ![16]⟩
abbrev S1x16384x1536 : Shape := ⟨3, ![1, 16384, 1536]⟩
abbrev S16384x1536 : Shape := ⟨2, ![16384, 1536]⟩
abbrev S16384x1024 : Shape := ⟨2, ![16384, 1024]⟩
abbrev S16384x256 : Shape := ⟨2, ![16384, 256]⟩
abbrev S2x8192x2x4x2x64 : Shape := ⟨6, ![2, 8192, 2, 4, 2, 64]⟩
abbrev S2x8192x2x2x4x64 : Shape := ⟨6, ![2, 8192, 2, 2, 4, 64]⟩
abbrev S2x8192x4x4x64 : Shape := ⟨5, ![2, 8192, 4, 4, 64]⟩
abbrev S2x4x2 : Shape := ⟨3, ![2, 4, 2]⟩
abbrev S2x2x4 : Shape := ⟨3, ![2, 2, 4]⟩
abbrev S4x4 : Shape := ⟨2, ![4, 4]⟩
abbrev S_ : Shape := ⟨0, ![]⟩
abbrev S1 : Shape := ⟨1, ![1]⟩
abbrev S2x8192x4x64 : Shape := ⟨4, ![2, 8192, 4, 64]⟩
abbrev S2x8320x4x64 : Shape := ⟨4, ![2, 8320, 4, 64]⟩
abbrev S2x64x128x4x4x64 : Shape := ⟨6, ![2, 64, 128, 4, 4, 64]⟩
abbrev S2x65x128x4x64 : Shape := ⟨5, ![2, 65, 128, 4, 64]⟩
abbrev S2x64x128x4x64 : Shape := ⟨5, ![2, 64, 128, 4, 64]⟩
abbrev S2x64x256x4x64 : Shape := ⟨5, ![2, 64, 256, 4, 64]⟩
abbrev S2x64x4x256x128x4 : Shape := ⟨6, ![2, 64, 4, 256, 128, 4]⟩
abbrev S2x64x4x4x128x256 : Shape := ⟨6, ![2, 64, 4, 4, 128, 256]⟩
abbrev S128 : Shape := ⟨1, ![128]⟩
abbrev S128x1 : Shape := ⟨2, ![128, 1]⟩
abbrev S256 : Shape := ⟨1, ![256]⟩
abbrev S1x256 : Shape := ⟨2, ![1, 256]⟩
abbrev S128x256 : Shape := ⟨2, ![128, 256]⟩
abbrev S64 : Shape := ⟨1, ![64]⟩
abbrev S64x1x1 : Shape := ⟨3, ![64, 1, 1]⟩
abbrev S1x1x256 : Shape := ⟨3, ![1, 1, 256]⟩
abbrev S64x1x256 : Shape := ⟨3, ![64, 1, 256]⟩
abbrev S1x128x256 : Shape := ⟨3, ![1, 128, 256]⟩
abbrev S64x128x256 : Shape := ⟨3, ![64, 128, 256]⟩
abbrev S1x1x4x4x1x1 : Shape := ⟨6, ![1, 1, 4, 4, 1, 1]⟩
abbrev S1x1x1x1x128x256 : Shape := ⟨6, ![1, 1, 1, 1, 128, 256]⟩
abbrev S1x1x4x4x128x256 : Shape := ⟨6, ![1, 1, 4, 4, 128, 256]⟩
abbrev S1x64x1x1x128x256 : Shape := ⟨6, ![1, 64, 1, 1, 128, 256]⟩
abbrev S2x64x4x4x128 : Shape := ⟨5, ![2, 64, 4, 4, 128]⟩
abbrev S2x64x4x4x128x1 : Shape := ⟨6, ![2, 64, 4, 4, 128, 1]⟩
abbrev S1x1x4x4x1 : Shape := ⟨5, ![1, 1, 4, 4, 1]⟩
abbrev S2x64x4x64x4x128 : Shape := ⟨6, ![2, 64, 4, 64, 4, 128]⟩
abbrev S1x16384x2x2x4x64 : Shape := ⟨6, ![1, 16384, 2, 2, 4, 64]⟩
abbrev S1x16384x2x4x2x64 : Shape := ⟨6, ![1, 16384, 2, 4, 2, 64]⟩
abbrev S1x16384x1024 : Shape := ⟨3, ![1, 16384, 1024]⟩

abbrev nBuf : Space → Nat
  | .hbm => 159
  | .vmem => 0
  | .smem => 0
  | _ => 0

abbrev hbmTy0_0 (i : Nat) : BufTy := match i % 128 with
  | 0 => ⟨S1x17408x1536, .bf16⟩
  | 1 => ⟨S16, .f32⟩
  | 2 => ⟨S1x16384x1536, .bf16⟩
  | 3 => ⟨S16384x1536, .bf16⟩
  | 4 => ⟨S16384x1536, .f32⟩
  | 5 => ⟨S16384x1024, .f32⟩
  | 6 => ⟨S16384x256, .f32⟩
  | 7 => ⟨S16384x256, .f32⟩
  | 8 => ⟨S2x8192x2x4x2x64, .f32⟩
  | 9 => ⟨S2x8192x2x2x4x64, .f32⟩
  | 10 => ⟨S2x8192x4x4x64, .f32⟩
  | 11 => ⟨S2x4x2, .f32⟩
  | 12 => ⟨S2x2x4, .f32⟩
  | 13 => ⟨S4x4, .f32⟩
  | 14 => ⟨S_, .f32⟩
  | 15 => ⟨S_, .f32⟩
  | 16 => ⟨S_, .f32⟩
  | 17 => ⟨S_, .f32⟩
  | 18 => ⟨S_, .f32⟩
  | 19 => ⟨S_, .f32⟩
  | 20 => ⟨S_, .f32⟩
  | 21 => ⟨S_, .f32⟩
  | 22 => ⟨S_, .f32⟩
  | 23 => ⟨S_, .f32⟩
  | 24 => ⟨S_, .f32⟩
  | 25 => ⟨S_, .f32⟩
  | 26 => ⟨S_, .f32⟩
  | 27 => ⟨S_, .f32⟩
  | 28 => ⟨S_, .f32⟩
  | 29 => ⟨S_, .f32⟩
  | 30 => ⟨S1, .f32⟩
  | 31 => ⟨S1, .f32⟩
  | 32 => ⟨S1, .f32⟩
  | 33 => ⟨S1, .f32⟩
  | 34 => ⟨S1, .f32⟩
  | 35 => ⟨S1, .f32⟩
  | 36 => ⟨S1, .f32⟩
  | 37 => ⟨S1, .f32⟩
  | 38 => ⟨S1, .f32⟩
  | 39 => ⟨S1, .f32⟩
  | 40 => ⟨S1, .f32⟩
  | 41 => ⟨S1, .f32⟩
  | 42 => ⟨S1, .f32⟩
  | 43 => ⟨S1, .f32⟩
  | 44 => ⟨S1, .f32⟩
  | 45 => ⟨S1, .f32⟩
  | 46 => ⟨S16, .f32⟩
  | 47 => ⟨S4x4, .f32⟩
  | 48 => ⟨S2x8192x4x64, .f32⟩
  | 49 => ⟨S_, .i32⟩
  | 50 => ⟨S_, .f32⟩
  | 51 => ⟨S2x8320x4x64, .f32⟩
  | 52 => ⟨S2x8192x4x64, .f32⟩
  | 53 => ⟨S_, .i32⟩
  | 54 => ⟨S_, .f32⟩
  | 55 => ⟨S2x8320x4x64, .f32⟩
  | 56 => ⟨S2x64x128x4x4x64, .f32⟩
  | 57 => ⟨S2x65x128x4x64, .f32⟩
  | 58 => ⟨S2x65x128x4x64, .f32⟩
  | 59 => ⟨S2x64x128x4x64, .f32⟩
  | 60 => ⟨S2x64x128x4x64, .f32⟩
  | 61 => ⟨S2x64x256x4x64, .f32⟩
  | 62 => ⟨S2x64x128x4x64, .f32⟩
  | 63 => ⟨S2x64x128x4x64, .f32⟩
  | 64 => ⟨S2x64x256x4x64, .f32⟩
  | 65 => ⟨S2x64x4x256x128x4, .f32⟩
  | 66 => ⟨S2x64x4x4x128x256, .f32⟩
  | 67 => ⟨S128, .i32⟩
  | 68 => ⟨S128x1, .i32⟩
  | 69 => ⟨S256, .i32⟩
  | 70 => ⟨S1x256, .i32⟩
  | 71 => ⟨S_, .i32⟩
  | 72 => ⟨S128x1, .i32⟩
  | 73 => ⟨S128x1, .i32⟩
  | 74 => ⟨S128x256, .i32⟩
  | 75 => ⟨S128x256, .i32⟩
  | 76 => ⟨S128x256, .i32⟩
  | 77 => ⟨S64, .i32⟩
  | 78 => ⟨S64x1x1, .i32⟩
  | 79 => ⟨S_, .i32⟩
  | 80 => ⟨S64x1x1, .i32⟩
  | 81 => ⟨S64x1x1, .i32⟩
  | 82 => ⟨S1x1x256, .i32⟩
  | 83 => ⟨S64x1x256, .i32⟩
  | 84 => ⟨S64x1x256, .i32⟩
  | 85 => ⟨S64x1x256, .i32⟩
  | 86 => ⟨S_, .i32⟩
  | 87 => ⟨S64x1x256, .i32⟩
  | 88 => ⟨S64x1x256, .i32⟩
  | 89 => ⟨S_, .i32⟩
  | 90 => ⟨S128x256, .i32⟩
  | 91 => ⟨S128x256, .i1⟩
  | 92 => ⟨S_, .i32⟩
  | 93 => ⟨S128x256, .i32⟩
  | 94 => ⟨S128x256, .i1⟩
  | 95 => ⟨S128x256, .i1⟩
  | 96 => ⟨S_, .i32⟩
  | 97 => ⟨S64x1x256, .i32⟩
  | 98 => ⟨S64x1x256, .i1⟩
  | 99 => ⟨S1x128x256, .i1⟩
  | 100 => ⟨S64x128x256, .i1⟩
  | 101 => ⟨S64x128x256, .i1⟩
  | 102 => ⟨S64x128x256, .i1⟩
  | 103 => ⟨S1x1x4x4x1x1, .f32⟩
  | 104 => ⟨S128x256, .f32⟩
  | 105 => ⟨S1x1x1x1x128x256, .f32⟩
  | 106 => ⟨S1x1x4x4x128x256, .f32⟩
  | 107 => ⟨S1x1x4x4x128x256, .f32⟩
  | 108 => ⟨S1x1x4x4x128x256, .f32⟩
  | 109 => ⟨S2x64x4x4x128x256, .f32⟩
  | 110 => ⟨S2x64x4x4x128x256, .f32⟩
  | 111 => ⟨S1x64x1x1x128x256, .i1⟩
  | 112 => ⟨S_, .f32⟩
  | 113 => ⟨S_, .f32⟩
  | 114 => ⟨S2x64x4x4x128x256, .i1⟩
  | 115 => ⟨S2x64x4x4x128x256, .f32⟩
  | 116 => ⟨S2x64x4x4x128x256, .f32⟩
  | 117 => ⟨S_, .f32⟩
  | 118 => ⟨S2x64x4x4x128, .f32⟩
  | 119 => ⟨S2x64x4x4x128, .f32⟩
  | 120 => ⟨S_, .f32⟩
  | 121 => ⟨S2x64x4x4x128, .f32⟩
  | 122 => ⟨S2x64x4x4x128, .i1⟩
  | 123 => ⟨S_, .f32⟩
  | 124 => ⟨S_, .f32⟩
  | 125 => ⟨S2x64x4x4x128, .f32⟩
  | 126 => ⟨S2x64x4x4x128, .f32⟩
  | 127 => ⟨S2x64x4x4x128x1, .f32⟩
  | _ => ⟨S1x17408x1536, .bf16⟩

abbrev hbmTy0_1 (i : Nat) : BufTy := match i % 128 with
  | 0 => ⟨S2x64x4x4x128x256, .f32⟩
  | 1 => ⟨S2x64x4x4x128x256, .f32⟩
  | 2 => ⟨S2x64x4x4x128x256, .f32⟩
  | 3 => ⟨S_, .f32⟩
  | 4 => ⟨S2x64x4x4x128, .f32⟩
  | 5 => ⟨S2x64x4x4x128, .f32⟩
  | 6 => ⟨S2x64x4x4x128, .f32⟩
  | 7 => ⟨S1x1x4x4x1, .f32⟩
  | 8 => ⟨S2x64x4x4x128, .f32⟩
  | 9 => ⟨S2x64x4x4x128, .f32⟩
  | 10 => ⟨S2x64x4x4x128, .f32⟩
  | 11 => ⟨S2x64x4x4x128, .f32⟩
  | 12 => ⟨S2x64x4x4x128, .i1⟩
  | 13 => ⟨S2x64x4x4x128, .f32⟩
  | 14 => ⟨S2x64x4x4x128, .f32⟩
  | 15 => ⟨S2x64x4x4x128, .f32⟩
  | 16 => ⟨S2x64x4x4x128, .f32⟩
  | 17 => ⟨S2x64x4x4x128, .f32⟩
  | 18 => ⟨S2x64x4x4x128, .f32⟩
  | 19 => ⟨S2x64x4x4x128, .f32⟩
  | 20 => ⟨S2x64x4x4x128, .f32⟩
  | 21 => ⟨S2x64x4x4x128x1, .f32⟩
  | 22 => ⟨S2x64x4x4x128x256, .f32⟩
  | 23 => ⟨S2x64x4x4x128x256, .f32⟩
  | 24 => ⟨S2x64x4x4x128x256, .f32⟩
  | 25 => ⟨S2x64x4x64x4x128, .f32⟩
  | 26 => ⟨S2x64x128x4x4x64, .f32⟩
  | 27 => ⟨S1x16384x2x2x4x64, .f32⟩
  | 28 => ⟨S1x16384x2x4x2x64, .f32⟩
  | 29 => ⟨S1x16384x1024, .f32⟩
  | 30 => ⟨S1x16384x1024, .bf16⟩
  | _ => ⟨S1x17408x1536, .bf16⟩

abbrev hbmTy (i : Nat) : BufTy := match i / 128 with
  | 0 => hbmTy0_0 i
  | 1 => hbmTy0_1 i
  | _ => ⟨S1x17408x1536, .bf16⟩

abbrev bufTy : (tb : Table) → Fin (tcTables nBuf tb) → BufTy
  | .hbm, ⟨i, _⟩ => hbmTy i
  | _, _ => ⟨S1x17408x1536, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_cst : Ref sig .tc := ⟨.hbm, 14, rfl⟩
abbrev main_cst_0 : Ref sig .tc := ⟨.hbm, 15, rfl⟩
abbrev main_cst_1 : Ref sig .tc := ⟨.hbm, 16, rfl⟩
abbrev main_cst_2 : Ref sig .tc := ⟨.hbm, 17, rfl⟩
abbrev main_cst_3 : Ref sig .tc := ⟨.hbm, 18, rfl⟩
abbrev main_cst_4 : Ref sig .tc := ⟨.hbm, 19, rfl⟩
abbrev main_cst_5 : Ref sig .tc := ⟨.hbm, 20, rfl⟩
abbrev main_cst_6 : Ref sig .tc := ⟨.hbm, 21, rfl⟩
abbrev main_cst_7 : Ref sig .tc := ⟨.hbm, 22, rfl⟩
abbrev main_cst_8 : Ref sig .tc := ⟨.hbm, 23, rfl⟩
abbrev main_cst_9 : Ref sig .tc := ⟨.hbm, 24, rfl⟩
abbrev main_cst_10 : Ref sig .tc := ⟨.hbm, 25, rfl⟩
abbrev main_cst_11 : Ref sig .tc := ⟨.hbm, 26, rfl⟩
abbrev main_cst_12 : Ref sig .tc := ⟨.hbm, 27, rfl⟩
abbrev main_cst_13 : Ref sig .tc := ⟨.hbm, 28, rfl⟩
abbrev main_cst_14 : Ref sig .tc := ⟨.hbm, 29, rfl⟩
abbrev main_v12 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_c : Ref sig .tc := ⟨.hbm, 49, rfl⟩
abbrev main_call0_v0 : Ref sig .tc := ⟨.hbm, 50, rfl⟩
abbrev main_v31 : Ref sig .tc := ⟨.hbm, 51, rfl⟩
abbrev main_v32 : Ref sig .tc := ⟨.hbm, 52, rfl⟩
abbrev main_c_15 : Ref sig .tc := ⟨.hbm, 53, rfl⟩
abbrev main_call1_v0 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_c_16 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_c_17 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_c_18 : Ref sig .tc := ⟨.hbm, 86, rfl⟩
abbrev main_v62 : Ref sig .tc := ⟨.hbm, 87, rfl⟩
abbrev main_v63 : Ref sig .tc := ⟨.hbm, 88, rfl⟩
abbrev main_c_19 : Ref sig .tc := ⟨.hbm, 89, rfl⟩
abbrev main_v64 : Ref sig .tc := ⟨.hbm, 90, rfl⟩
abbrev main_v65 : Ref sig .tc := ⟨.hbm, 91, rfl⟩
abbrev main_c_20 : Ref sig .tc := ⟨.hbm, 92, rfl⟩
abbrev main_v66 : Ref sig .tc := ⟨.hbm, 93, rfl⟩
abbrev main_v67 : Ref sig .tc := ⟨.hbm, 94, rfl⟩
abbrev main_v68 : Ref sig .tc := ⟨.hbm, 95, rfl⟩
abbrev main_c_21 : Ref sig .tc := ⟨.hbm, 96, rfl⟩
abbrev main_v69 : Ref sig .tc := ⟨.hbm, 97, rfl⟩
abbrev main_v70 : Ref sig .tc := ⟨.hbm, 98, rfl⟩
abbrev main_v71 : Ref sig .tc := ⟨.hbm, 99, rfl⟩
abbrev main_v72 : Ref sig .tc := ⟨.hbm, 100, rfl⟩
abbrev main_v73 : Ref sig .tc := ⟨.hbm, 101, rfl⟩
abbrev main_v74 : Ref sig .tc := ⟨.hbm, 102, rfl⟩
abbrev main_v75 : Ref sig .tc := ⟨.hbm, 103, rfl⟩
abbrev main_v76 : Ref sig .tc := ⟨.hbm, 104, rfl⟩
abbrev main_v77 : Ref sig .tc := ⟨.hbm, 105, rfl⟩
abbrev main_v78 : Ref sig .tc := ⟨.hbm, 106, rfl⟩
abbrev main_v79 : Ref sig .tc := ⟨.hbm, 107, rfl⟩
abbrev main_v80 : Ref sig .tc := ⟨.hbm, 108, rfl⟩
abbrev main_v81 : Ref sig .tc := ⟨.hbm, 109, rfl⟩
abbrev main_v82 : Ref sig .tc := ⟨.hbm, 110, rfl⟩
abbrev main_v83 : Ref sig .tc := ⟨.hbm, 111, rfl⟩
abbrev main_cst_22 : Ref sig .tc := ⟨.hbm, 112, rfl⟩
abbrev main_call2_v0 : Ref sig .tc := ⟨.hbm, 113, rfl⟩
abbrev main_call2_v1 : Ref sig .tc := ⟨.hbm, 114, rfl⟩
abbrev main_call2_v2 : Ref sig .tc := ⟨.hbm, 115, rfl⟩
abbrev main_v84 : Ref sig .tc := ⟨.hbm, 116, rfl⟩
abbrev main_cst_23 : Ref sig .tc := ⟨.hbm, 117, rfl⟩
abbrev main_v85 : Ref sig .tc := ⟨.hbm, 118, rfl⟩
abbrev main_v86 : Ref sig .tc := ⟨.hbm, 119, rfl⟩
abbrev main_cst_24 : Ref sig .tc := ⟨.hbm, 120, rfl⟩
abbrev main_v87 : Ref sig .tc := ⟨.hbm, 121, rfl⟩
abbrev main_v88 : Ref sig .tc := ⟨.hbm, 122, rfl⟩
abbrev main_cst_25 : Ref sig .tc := ⟨.hbm, 123, rfl⟩
abbrev main_call3_v0 : Ref sig .tc := ⟨.hbm, 124, rfl⟩
abbrev main_call3_v1 : Ref sig .tc := ⟨.hbm, 125, rfl⟩
abbrev main_v89 : Ref sig .tc := ⟨.hbm, 126, rfl⟩
abbrev main_v90 : Ref sig .tc := ⟨.hbm, 127, rfl⟩
abbrev main_v91 : Ref sig .tc := ⟨.hbm, 128, rfl⟩
abbrev main_v92 : Ref sig .tc := ⟨.hbm, 129, rfl⟩
abbrev main_v93 : Ref sig .tc := ⟨.hbm, 130, rfl⟩
abbrev main_cst_26 : Ref sig .tc := ⟨.hbm, 131, rfl⟩
abbrev main_v94 : Ref sig .tc := ⟨.hbm, 132, rfl⟩
abbrev main_v95 : Ref sig .tc := ⟨.hbm, 133, rfl⟩
abbrev main_v96 : Ref sig .tc := ⟨.hbm, 134, rfl⟩
abbrev main_v97 : Ref sig .tc := ⟨.hbm, 135, rfl⟩
abbrev main_v98 : Ref sig .tc := ⟨.hbm, 136, rfl⟩
abbrev main_v99 : Ref sig .tc := ⟨.hbm, 137, rfl⟩
abbrev main_v100 : Ref sig .tc := ⟨.hbm, 138, rfl⟩
abbrev main_v101 : Ref sig .tc := ⟨.hbm, 139, rfl⟩
abbrev main_v102 : Ref sig .tc := ⟨.hbm, 140, rfl⟩
abbrev main_v103 : Ref sig .tc := ⟨.hbm, 141, rfl⟩
abbrev main_v104 : Ref sig .tc := ⟨.hbm, 142, rfl⟩
abbrev main_v105 : Ref sig .tc := ⟨.hbm, 143, rfl⟩
abbrev main_v106 : Ref sig .tc := ⟨.hbm, 144, rfl⟩
abbrev main_v107 : Ref sig .tc := ⟨.hbm, 145, rfl⟩
abbrev main_v108 : Ref sig .tc := ⟨.hbm, 146, rfl⟩
abbrev main_v109 : Ref sig .tc := ⟨.hbm, 147, rfl⟩
abbrev main_v110 : Ref sig .tc := ⟨.hbm, 148, rfl⟩
abbrev main_v111 : Ref sig .tc := ⟨.hbm, 149, rfl⟩
abbrev main_v112 : Ref sig .tc := ⟨.hbm, 150, rfl⟩
abbrev main_v113 : Ref sig .tc := ⟨.hbm, 151, rfl⟩
abbrev main_v114 : Ref sig .tc := ⟨.hbm, 152, rfl⟩
abbrev main_v115 : Ref sig .tc := ⟨.hbm, 153, rfl⟩
abbrev main_v116 : Ref sig .tc := ⟨.hbm, 154, rfl⟩
abbrev main_v117 : Ref sig .tc := ⟨.hbm, 155, rfl⟩
abbrev main_v118 : Ref sig .tc := ⟨.hbm, 156, rfl⟩
abbrev main_v119 : Ref sig .tc := ⟨.hbm, 157, rfl⟩
abbrev main_v120 : Ref sig .tc := ⟨.hbm, 158, rfl⟩

abbrev nD : Nat := 1
abbrev τ : Topo := Topo.v7x

variable {F : FTy → Type} [FloatOps F]
-- ==== Kernel2.lean ====
abbrev S17408x1024 : Shape := ⟨2, ![17408, 1024]⟩
abbrev S1024x1024 : Shape := ⟨2, ![1024, 1024]⟩
abbrev S1024 : Shape := ⟨1, ![1024]⟩
abbrev S1024x5632 : Shape := ⟨2, ![1024, 5632]⟩
abbrev S2816x1024 : Shape := ⟨2, ![2816, 1024]⟩
abbrev S16384x1024 : Shape := ⟨2, ![16384, 1024]⟩
abbrev S1x1024 : Shape := ⟨2, ![1, 1024]⟩
abbrev S512x1024 : Shape := ⟨2, ![512, 1024]⟩
abbrev S512x2816 : Shape := ⟨2, ![512, 2816]⟩
abbrev S512 : Shape := ⟨1, ![512]⟩
abbrev S512x1 : Shape := ⟨2, ![512, 1]⟩
abbrev S1024x256 : Shape := ⟨2, ![1024, 256]⟩
abbrev S512x256 : Shape := ⟨2, ![512, 256]⟩

abbrev nBuf : Space → Nat
  | .hbm => 9
  | .vmem => 14
  | .smem => 0
  | _ => 0

abbrev bufTy : (tb : Table) → Fin (tcTables nBuf tb) → BufTy
  | .hbm, ⟨0, _⟩ => ⟨S17408x1024, .f32⟩
  | .hbm, ⟨1, _⟩ => ⟨S1024x1024, .bf16⟩
  | .hbm, ⟨2, _⟩ => ⟨S1024, .f32⟩
  | .hbm, ⟨3, _⟩ => ⟨S1024x5632, .bf16⟩
  | .hbm, ⟨4, _⟩ => ⟨S2816x1024, .bf16⟩
  | .hbm, ⟨5, _⟩ => ⟨S16384x1024, .bf16⟩
  | .hbm, ⟨6, _⟩ => ⟨S1024x1024, .bf16⟩
  | .hbm, ⟨7, _⟩ => ⟨S1x1024, .f32⟩
  | .hbm, ⟨8, _⟩ => ⟨S17408x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .bf16⟩
  | .local _ .vmem, ⟨3, _⟩ => ⟨S512x1024, .bf16⟩
  | .local _ .vmem, ⟨4, _⟩ => ⟨S512x1024, .bf16⟩
  | .local _ .vmem, ⟨5, _⟩ => ⟨S512x1024, .bf16⟩
  | .local _ .vmem, ⟨6, _⟩ => ⟨S1024x1024, .bf16⟩
  | .local _ .vmem, ⟨7, _⟩ => ⟨S1x1024, .f32⟩
  | .local _ .vmem, ⟨8, _⟩ => ⟨S1024x5632, .bf16⟩
  | .local _ .vmem, ⟨9, _⟩ => ⟨S2816x1024, .bf16⟩
  | .local _ .vmem, ⟨10, _⟩ => ⟨S512x1024, .f32⟩
  | .local _ .vmem, ⟨11, _⟩ => ⟨S512x1024, .f32⟩
  | .local _ .vmem, ⟨12, _⟩ => ⟨S512x2816, .bf16⟩
  | .local _ .vmem, ⟨13, _⟩ => ⟨S512x1024, .bf16⟩
  | _, _ => ⟨S17408x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg7_1 : Ref sig .tc := ⟨.vmem, 11, rfl⟩
abbrev cc0_scratch0 : Ref sig .tc := ⟨.vmem, 12, rfl⟩
abbrev cc0_scratch1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem7_1 : DmaSem sig := 11

abbrev nD : Nat := 1
abbrev τ : Topo := Topo.v7x

variable {F : FTy → Type} [FloatOps F]

abbrev grid0 : Pipeline.Grid := ⟨1, ![34], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c31_i32 : BitVec 32 := 31#32
  let v0 : BitVec 32 := Scalar.minsi arg0 c31_i32
  let c0_i32 : BitVec 32 := 0#32
  let c0_i32_0 : BitVec 32 := 0#32
  ![v0.toNat, c0_i32.toNat]

def cc0_transform_2 (i : grid0.Coords) : Fin 2 → Nat :=
  let arg0 : BitVec 32 := BitVec.ofNat 32 (i 0).val
  let c32_i32 : BitVec 32 := 32#32
  let v0 : BitVec 32 := Scalar.subi arg0 c32_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x5632 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S2816x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Reference2Ideal.lean ====
abbrev S17408x1024 : Shape := ⟨2, ![17408, 1024]⟩
abbrev S1024x1024 : Shape := ⟨2, ![1024, 1024]⟩
abbrev S1024 : Shape := ⟨1, ![1024]⟩
abbrev S1024x5632 : Shape := ⟨2, ![1024, 5632]⟩
abbrev S2816x1024 : Shape := ⟨2, ![2816, 1024]⟩
abbrev S16384x1024 : Shape := ⟨2, ![16384, 1024]⟩
abbrev S_ : Shape := ⟨0, ![]⟩
abbrev S17408 : Shape := ⟨1, ![17408]⟩
abbrev S17408x1 : Shape := ⟨2, ![17408, 1]⟩
abbrev S1x1024 : Shape := ⟨2, ![1, 1024]⟩
abbrev S17408x5632 : Shape := ⟨2, ![17408, 5632]⟩
abbrev S17408x2816 : Shape := ⟨2, ![17408, 2816]⟩

abbrev nBuf : Space → Nat
  | .hbm => 45
  | .vmem => 0
  | .smem => 0
  | _ => 0

abbrev bufTy : (tb : Table) → Fin (tcTables nBuf tb) → BufTy
  | .hbm, ⟨0, _⟩ => ⟨S17408x1024, .f32⟩
  | .hbm, ⟨1, _⟩ => ⟨S1024x1024, .bf16⟩
  | .hbm, ⟨2, _⟩ => ⟨S1024, .f32⟩
  | .hbm, ⟨3, _⟩ => ⟨S1024x5632, .bf16⟩
  | .hbm, ⟨4, _⟩ => ⟨S2816x1024, .bf16⟩
  | .hbm, ⟨5, _⟩ => ⟨S16384x1024, .bf16⟩
  | .hbm, ⟨6, _⟩ => ⟨S1024x1024, .bf16⟩
  | .hbm, ⟨7, _⟩ => ⟨S17408x1024, .bf16⟩
  | .hbm, ⟨8, _⟩ => ⟨S17408x1024, .f32⟩
  | .hbm, ⟨9, _⟩ => ⟨S1024x1024, .f32⟩
  | .hbm, ⟨10, _⟩ => ⟨S17408x1024, .f32⟩
  | .hbm, ⟨11, _⟩ => ⟨S17408x1024, .f32⟩
  | .hbm, ⟨12, _⟩ => ⟨S17408x1024, .f32⟩
  | .hbm, ⟨13, _⟩ => ⟨S_, .f32⟩
  | .hbm, ⟨14, _⟩ => ⟨S17408, .f32⟩
  | .hbm, ⟨15, _⟩ => ⟨S17408x1, .f32⟩
  | .hbm, ⟨16, _⟩ => ⟨S_, .f32⟩
  | .hbm, ⟨17, _⟩ => ⟨S17408x1, .f32⟩
  | .hbm, ⟨18, _⟩ => ⟨S17408x1, .f32⟩
  | .hbm, ⟨19, _⟩ => ⟨S_, .f32⟩
  | .hbm, ⟨20, _⟩ => ⟨S17408x1, .f32⟩
  | .hbm, ⟨21, _⟩ => ⟨S17408x1, .f32⟩
  | .hbm, ⟨22, _⟩ => ⟨S17408x1, .f32⟩
  | .hbm, ⟨23, _⟩ => ⟨S17408x1024, .f32⟩
  | .hbm, ⟨24, _⟩ => ⟨S17408x1024, .f32⟩
  | .hbm, ⟨25, _⟩ => ⟨S1x1024, .f32⟩
  | .hbm, ⟨26, _⟩ => ⟨S17408x1024, .f32⟩
  | .hbm, ⟨27, _⟩ => ⟨S17408x1024, .f32⟩
  | .hbm, ⟨28, _⟩ => ⟨S1024x5632, .f32⟩
  | .hbm, ⟨29, _⟩ => ⟨S17408x5632, .f32⟩
  | .hbm, ⟨30, _⟩ => ⟨S17408x2816, .f32⟩
  | .hbm, ⟨31, _⟩ => ⟨S17408x2816, .f32⟩
  | .hbm, ⟨32, _⟩ => ⟨S17408x2816, .f32⟩
  | .hbm, ⟨33, _⟩ => ⟨S17408x2816, .f32⟩
  | .hbm, ⟨34, _⟩ => ⟨S_, .f32⟩
  | .hbm, ⟨35, _⟩ => ⟨S17408x2816, .f32⟩
  | .hbm, ⟨36, _⟩ => ⟨S17408x2816, .f32⟩
  | .hbm, ⟨37, _⟩ => ⟨S_, .f32⟩
  | .hbm, ⟨38, _⟩ => ⟨S17408x2816, .f32⟩
  | .hbm, ⟨39, _⟩ => ⟨S17408x2816, .f32⟩
  | .hbm, ⟨40, _⟩ => ⟨S17408x2816, .f32⟩
  | .hbm, ⟨41, _⟩ => ⟨S17408x2816, .f32⟩
  | .hbm, ⟨42, _⟩ => ⟨S2816x1024, .f32⟩
  | .hbm, ⟨43, _⟩ => ⟨S17408x1024, .f32⟩
  | .hbm, ⟨44, _⟩ => ⟨S17408x1024, .f32⟩
  | _, _ => ⟨S17408x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst : Ref sig .tc := ⟨.hbm, 13, rfl⟩
abbrev main_v6 : Ref sig .tc := ⟨.hbm, 14, rfl⟩
abbrev main_v7 : Ref sig .tc := ⟨.hbm, 15, rfl⟩
abbrev main_cst_0 : Ref sig .tc := ⟨.hbm, 16, rfl⟩
abbrev main_v8 : Ref sig .tc := ⟨.hbm, 17, rfl⟩
abbrev main_v9 : Ref sig .tc := ⟨.hbm, 18, rfl⟩
abbrev main_cst_1 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_call0_v0 : Ref sig .tc := ⟨.hbm, 32, rfl⟩
abbrev main_call0_v1 : Ref sig .tc := ⟨.hbm, 33, rfl⟩
abbrev main_call0_cst : Ref sig .tc := ⟨.hbm, 34, rfl⟩
abbrev main_call0_v2 : Ref sig .tc := ⟨.hbm, 35, rfl⟩
abbrev main_call0_v3 : Ref sig .tc := ⟨.hbm, 36, rfl⟩
abbrev main_call0_cst_0 : Ref sig .tc := ⟨.hbm, 37, rfl⟩
abbrev main_call0_v4 : Ref sig .tc := ⟨.hbm, 38, rfl⟩
abbrev main_call0_v5 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩

abbrev nD : Nat := 1
abbrev τ : Topo := Topo.v7x

variable {F : FTy → Type} [FloatOps F]
-- ==== Kernel3.lean ====
abbrev S17408x1024 : Shape := ⟨2, ![17408, 1024]⟩
abbrev S1024 : Shape := ⟨1, ![1024]⟩
abbrev S1024x1536 : Shape := ⟨2, ![1024, 1536]⟩
abbrev S1x1024 : Shape := ⟨2, ![1, 1024]⟩
abbrev S17408x1536 : Shape := ⟨2, ![17408, 1536]⟩
abbrev S17408x512 : Shape := ⟨2, ![17408, 512]⟩
abbrev S512x1024 : Shape := ⟨2, ![512, 1024]⟩
abbrev S512x1536 : Shape := ⟨2, ![512, 1536]⟩
abbrev S512x512 : Shape := ⟨2, ![512, 512]⟩
abbrev S12x512x128 : Shape := ⟨3, ![12, 512, 128]⟩
abbrev S512 : Shape := ⟨1, ![512]⟩
abbrev S512x1 : Shape := ⟨2, ![512, 1]⟩
abbrev S1x1536 : Shape := ⟨2, ![1, 1536]⟩

abbrev nBuf : Space → Nat
  | .hbm => 6
  | .vmem => 9
  | .smem => 0
  | _ => 0

abbrev bufTy : (tb : Table) → Fin (tcTables nBuf tb) → BufTy
  | .hbm, ⟨0, _⟩ => ⟨S17408x1024, .f32⟩
  | .hbm, ⟨1, _⟩ => ⟨S1024, .f32⟩
  | .hbm, ⟨2, _⟩ => ⟨S1024x1536, .bf16⟩
  | .hbm, ⟨3, _⟩ => ⟨S1x1024, .f32⟩
  | .hbm, ⟨4, _⟩ => ⟨S17408x1536, .bf16⟩
  | .hbm, ⟨5, _⟩ => ⟨S17408x512, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1024x1536, .bf16⟩
  | .local _ .vmem, ⟨4, _⟩ => ⟨S512x1536, .bf16⟩
  | .local _ .vmem, ⟨5, _⟩ => ⟨S512x1536, .bf16⟩
  | .local _ .vmem, ⟨6, _⟩ => ⟨S512x512, .f32⟩
  | .local _ .vmem, ⟨7, _⟩ => ⟨S512x512, .f32⟩
  | .local _ .vmem, ⟨8, _⟩ => ⟨S12x512x128, .f32⟩
  | _, _ => ⟨S17408x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1_0 : Ref sig .tc := ⟨.hbm, 4, rfl⟩
abbrev main_v1_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![34], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x1536 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x1536 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== Reference3Ideal.lean ====
abbrev S17408x1024 : Shape := ⟨2, ![17408, 1024]⟩
abbrev S1024 : Shape := ⟨1, ![1024]⟩
abbrev S1024x1536 : Shape := ⟨2, ![1024, 1536]⟩
abbrev S_ : Shape := ⟨0, ![]⟩
abbrev S17408 : Shape := ⟨1, ![17408]⟩
abbrev S17408x1 : Shape := ⟨2, ![17408, 1]⟩
abbrev S1x1024 : Shape := ⟨2, ![1, 1024]⟩
abbrev S17408x1536 : Shape := ⟨2, ![17408, 1536]⟩
abbrev S17408x512 : Shape := ⟨2, ![17408, 512]⟩

abbrev nBuf : Space → Nat
  | .hbm => 28
  | .vmem => 0
  | .smem => 0
  | _ => 0

abbrev bufTy : (tb : Table) → Fin (tcTables nBuf tb) → BufTy
  | .hbm, ⟨0, _⟩ => ⟨S17408x1024, .f32⟩
  | .hbm, ⟨1, _⟩ => ⟨S1024, .f32⟩
  | .hbm, ⟨2, _⟩ => ⟨S1024x1536, .bf16⟩
  | .hbm, ⟨3, _⟩ => ⟨S17408x1024, .f32⟩
  | .hbm, ⟨4, _⟩ => ⟨S_, .f32⟩
  | .hbm, ⟨5, _⟩ => ⟨S17408, .f32⟩
  | .hbm, ⟨6, _⟩ => ⟨S17408x1, .f32⟩
  | .hbm, ⟨7, _⟩ => ⟨S_, .f32⟩
  | .hbm, ⟨8, _⟩ => ⟨S17408x1, .f32⟩
  | .hbm, ⟨9, _⟩ => ⟨S17408x1, .f32⟩
  | .hbm, ⟨10, _⟩ => ⟨S_, .f32⟩
  | .hbm, ⟨11, _⟩ => ⟨S17408x1, .f32⟩
  | .hbm, ⟨12, _⟩ => ⟨S17408x1, .f32⟩
  | .hbm, ⟨13, _⟩ => ⟨S17408x1, .f32⟩
  | .hbm, ⟨14, _⟩ => ⟨S17408x1024, .f32⟩
  | .hbm, ⟨15, _⟩ => ⟨S17408x1024, .f32⟩
  | .hbm, ⟨16, _⟩ => ⟨S1x1024, .f32⟩
  | .hbm, ⟨17, _⟩ => ⟨S17408x1024, .f32⟩
  | .hbm, ⟨18, _⟩ => ⟨S17408x1024, .f32⟩
  | .hbm, ⟨19, _⟩ => ⟨S1024x1536, .f32⟩
  | .hbm, ⟨20, _⟩ => ⟨S17408x1536, .f32⟩
  | .hbm, ⟨21, _⟩ => ⟨S17408x1024, .f32⟩
  | .hbm, ⟨22, _⟩ => ⟨S17408x512, .f32⟩
  | .hbm, ⟨23, _⟩ => ⟨S_, .f32⟩
  | .hbm, ⟨24, _⟩ => ⟨S17408x1024, .f32⟩
  | .hbm, ⟨25, _⟩ => ⟨S17408x1024, .f32⟩
  | .hbm, ⟨26, _⟩ => ⟨S17408x1536, .f32⟩
  | .hbm, ⟨27, _⟩ => ⟨S17408x1536, .bf16⟩
  | _, _ => ⟨S17408x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_cst_2 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩

abbrev nD : Nat := 1
abbrev τ : Topo := Topo.v7x

variable {F : FTy → Type} [FloatOps F]
-- ==== Kernel4.lean ====
abbrev S17408x1024 : Shape := ⟨2, ![17408, 1024]⟩
abbrev S512x1024 : Shape := ⟨2, ![512, 1024]⟩
abbrev S1024 : Shape := ⟨1, ![1024]⟩
abbrev S1024x5632 : Shape := ⟨2, ![1024, 5632]⟩
abbrev S2816x1024 : Shape := ⟨2, ![2816, 1024]⟩
abbrev S1x16384x512 : Shape := ⟨3, ![1, 16384, 512]⟩
abbrev S4x4096x512 : Shape := ⟨3, ![4, 4096, 512]⟩
abbrev S16x1024x512 : Shape := ⟨3, ![16, 1024, 512]⟩
abbrev S1024x512 : Shape := ⟨2, ![1024, 512]⟩
abbrev S1x1024 : Shape := ⟨2, ![1, 1024]⟩
abbrev S1x512x512 : Shape := ⟨3, ![1, 512, 512]⟩
abbrev S4x128x512 : Shape := ⟨3, ![4, 128, 512]⟩
abbrev S16x32x512 : Shape := ⟨3, ![16, 32, 512]⟩
abbrev S512x512 : Shape := ⟨2, ![512, 512]⟩
abbrev S512x2816 : Shape := ⟨2, ![512, 2816]⟩
abbrev S16x512x128 : Shape := ⟨3, ![16, 512, 128]⟩
abbrev S1x128x128 : Shape := ⟨3, ![1, 128, 128]⟩
abbrev S128x128 : Shape := ⟨2, ![128, 128]⟩
abbrev S1x32x128 : Shape := ⟨3, ![1, 32, 128]⟩
abbrev S32x128 : Shape := ⟨2, ![32, 128]⟩
abbrev S1x512x128 : Shape := ⟨3, ![1, 512, 128]⟩
abbrev S512x128 : Shape := ⟨2, ![512, 128]⟩
abbrev S512 : Shape := ⟨1, ![512]⟩
abbrev S512x1 : Shape := ⟨2, ![512, 1]⟩
abbrev S1024x256 : Shape := ⟨2, ![1024, 256]⟩
abbrev S512x256 : Shape := ⟨2, ![512, 256]⟩

abbrev nBuf : Space → Nat
  | .hbm => 14
  | .vmem => 25
  | .smem => 0
  | _ => 0

abbrev bufTy : (tb : Table) → Fin (tcTables nBuf tb) → BufTy
  | .hbm, ⟨0, _⟩ => ⟨S17408x1024, .f32⟩
  | .hbm, ⟨1, _⟩ => ⟨S512x1024, .bf16⟩
  | .hbm, ⟨2, _⟩ => ⟨S1024, .f32⟩
  | .hbm, ⟨3, _⟩ => ⟨S1024x5632, .bf16⟩
  | .hbm, ⟨4, _⟩ => ⟨S2816x1024, .bf16⟩
  | .hbm, ⟨5, _⟩ => ⟨S1x16384x512, .f32⟩
  | .hbm, ⟨6, _⟩ => ⟨S1x16384x512, .f32⟩
  | .hbm, ⟨7, _⟩ => ⟨S4x4096x512, .f32⟩
  | .hbm, ⟨8, _⟩ => ⟨S4x4096x512, .f32⟩
  | .hbm, ⟨9, _⟩ => ⟨S16x1024x512, .f32⟩
  | .hbm, ⟨10, _⟩ => ⟨S16x1024x512, .f32⟩
  | .hbm, ⟨11, _⟩ => ⟨S1024x512, .f32⟩
  | .hbm, ⟨12, _⟩ => ⟨S1x1024, .f32⟩
  | .hbm, ⟨13, _⟩ => ⟨S17408x1024, .f32⟩
  | .local _ .vmem, ⟨0, _⟩ => ⟨S512x1024, .f32⟩
  | .local _ .vmem, ⟨1, _⟩ => ⟨S512x1024, .f32⟩
  | .local _ .vmem, ⟨2, _⟩ => ⟨S1x512x512, .f32⟩
  | .local _ .vmem, ⟨3, _⟩ => ⟨S1x512x512, .f32⟩
  | .local _ .vmem, ⟨4, _⟩ => ⟨S1x512x512, .f32⟩
  | .local _ .vmem, ⟨5, _⟩ => ⟨S1x512x512, .f32⟩
  | .local _ .vmem, ⟨6, _⟩ => ⟨S4x128x512, .f32⟩
  | .local _ .vmem, ⟨7, _⟩ => ⟨S4x128x512, .f32⟩
  | .local _ .vmem, ⟨8, _⟩ => ⟨S4x128x512, .f32⟩
  | .local _ .vmem, ⟨9, _⟩ => ⟨S4x128x512, .f32⟩
  | .local _ .vmem, ⟨10, _⟩ => ⟨S16x32x512, .f32⟩
  | .local _ .vmem, ⟨11, _⟩ => ⟨S16x32x512, .f32⟩
  | .local _ .vmem, ⟨12, _⟩ => ⟨S16x32x512, .f32⟩
  | .local _ .vmem, ⟨13, _⟩ => ⟨S16x32x512, .f32⟩
  | .local _ .vmem, ⟨14, _⟩ => ⟨S512x512, .f32⟩
  | .local _ .vmem, ⟨15, _⟩ => ⟨S512x512, .f32⟩
  | .local _ .vmem, ⟨16, _⟩ => ⟨S512x1024, .bf16⟩
  | .local _ .vmem, ⟨17, _⟩ => ⟨S1x1024, .f32⟩
  | .local _ .vmem, ⟨18, _⟩ => ⟨S1024x5632, .bf16⟩
  | .local _ .vmem, ⟨19, _⟩ => ⟨S2816x1024, .bf16⟩
  | .local _ .vmem, ⟨20, _⟩ => ⟨S512x1024, .f32⟩
  | .local _ .vmem, ⟨21, _⟩ => ⟨S512x1024, .f32⟩
  | .local _ .vmem, ⟨22, _⟩ => ⟨S512x2816, .bf16⟩
  | .local _ .vmem, ⟨23, _⟩ => ⟨S512x512, .bf16⟩
  | .local _ .vmem, ⟨24, _⟩ => ⟨S16x512x128, .f32⟩
  | _, _ => ⟨S17408x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg9_0 : Ref sig .tc := ⟨.vmem, 17, rfl⟩
abbrev cc0_stg10_0 : Ref sig .tc := ⟨.vmem, 18, rfl⟩
abbrev cc0_stg11_0 : Ref sig .tc := ⟨.vmem, 19, rfl⟩
abbrev cc0_stg12_0 : Ref sig .tc := ⟨.vmem, 20, rfl⟩
abbrev cc0_stg12_1 : Ref sig .tc := ⟨.vmem, 21, rfl⟩
abbrev cc0_scratch0 : Ref sig .tc := ⟨.vmem, 22, rfl⟩
abbrev cc0_scratch1 : Ref sig .tc := ⟨.vmem, 23, rfl⟩
abbrev cc0_scratch2 : Ref sig .tc := ⟨.vmem, 24, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem9_0 : DmaSem sig := 17
abbrev cc0_sem10_0 : DmaSem sig := 18
abbrev cc0_sem11_0 : DmaSem sig := 19
abbrev cc0_sem12_0 : DmaSem sig := 20
abbrev cc0_sem12_1 : DmaSem sig := 21

abbrev nD : Nat := 1
abbrev τ : Topo := Topo.v7x

variable {F : FTy → Type} [FloatOps F]

abbrev grid0 : Pipeline.Grid := ⟨1, ![34], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c31_i32 : BitVec 32 := 31#32
  let v0 : BitVec 32 := Scalar.minsi arg0 c31_i32
  let c0_i32 : BitVec 32 := 0#32
  let c0_i32_0 : BitVec 32 := 0#32
  let c0_i32_1 : BitVec 32 := 0#32
  ![c0_i32.toNat, v0.toNat, c0_i32_0.toNat]

def cc0_transform_2 (i : grid0.Coords) : Fin 3 → Nat :=
  let arg0 : BitVec 32 := BitVec.ofNat 32 (i 0).val
  let c31_i32 : BitVec 32 := 31#32
  let v0 : BitVec 32 := Scalar.minsi arg0 c31_i32
  let c0_i32 : BitVec 32 := 0#32
  let c0_i32_0 : BitVec 32 := 0#32
  let c0_i32_1 : BitVec 32 := 0#32
  ![c0_i32.toNat, v0.toNat, c0_i32_0.toNat]

def cc0_transform_3 (i : grid0.Coords) : Fin 3 → Nat :=
  let arg0 : BitVec 32 := BitVec.ofNat 32 (i 0).val
  let c31_i32 : BitVec 32 := 31#32
  let v0 : BitVec 32 := Scalar.minsi arg0 c31_i32
  let c0_i32 : BitVec 32 := 0#32
  let c0_i32_0 : BitVec 32 := 0#32
  let c0_i32_1 : BitVec 32 := 0#32
  ![c0_i32.toNat, v0.toNat, c0_i32_0.toNat]

def cc0_transform_4 (i : grid0.Coords) : Fin 3 → Nat :=
  let arg0 : BitVec 32 := BitVec.ofNat 32 (i 0).val
  let c31_i32 : BitVec 32 := 31#32
  let v0 : BitVec 32 := Scalar.minsi arg0 c31_i32
  let c0_i32 : BitVec 32 := 0#32
  let c0_i32_0 : BitVec 32 := 0#32
  let c0_i32_1 : BitVec 32 := 0#32
  ![c0_i32.toNat, v0.toNat, c0_i32_0.toNat]

def cc0_transform_5 (i : grid0.Coords) : Fin 3 → Nat :=
  let arg0 : BitVec 32 := BitVec.ofNat 32 (i 0).val
  let c31_i32 : BitVec 32 := 31#32
  let v0 : BitVec 32 := Scalar.minsi arg0 c31_i32
  let c0_i32 : BitVec 32 := 0#32
  let c0_i32_0 : BitVec 32 := 0#32
  let c0_i32_1 : BitVec 32 := 0#32
  ![c0_i32.toNat, v0.toNat, c0_i32_0.toNat]

def cc0_transform_6 (i : grid0.Coords) : Fin 3 → Nat :=
  let arg0 : BitVec 32 := BitVec.ofNat 32 (i 0).val
  let c31_i32 : BitVec 32 := 31#32
  let v0 : BitVec 32 := Scalar.minsi arg0 c31_i32
  let c0_i32 : BitVec 32 := 0#32
  let c0_i32_0 : BitVec 32 := 0#32
  let c0_i32_1 : BitVec 32 := 0#32
  ![c0_i32.toNat, v0.toNat, c0_i32_0.toNat]

def cc0_transform_7 (i : grid0.Coords) : Fin 2 → Nat :=
  let arg0 : BitVec 32 := BitVec.ofNat 32 (i 0).val
  let c32_i32 : BitVec 32 := 32#32
  let v0 : BitVec 32 := Scalar.subi arg0 c32_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S4x128x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S4x128x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S16x32x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S16x32x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S512x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1024x5632 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S2816x1024 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 2 → Memref sig .tc .vmem S512x1024 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]
-- ==== Reference4Ideal.lean ====
abbrev S17408x1024 : Shape := ⟨2, ![17408, 1024]⟩
abbrev S512x1024 : Shape := ⟨2, ![512, 1024]⟩
abbrev S1024 : Shape := ⟨1, ![1024]⟩
abbrev S1024x5632 : Shape := ⟨2, ![1024, 5632]⟩
abbrev S2816x1024 : Shape := ⟨2, ![2816, 1024]⟩
abbrev S1x16384x512 : Shape := ⟨3, ![1, 16384, 512]⟩
abbrev S4x4096x512 : Shape := ⟨3, ![4, 4096, 512]⟩
abbrev S16x1024x512 : Shape := ⟨3, ![16, 1024, 512]⟩
abbrev S1024x512 : Shape := ⟨2, ![1024, 512]⟩
abbrev S16384x1x512 : Shape := ⟨3, ![16384, 1, 512]⟩
abbrev S16384x512 : Shape := ⟨2, ![16384, 512]⟩
abbrev S4096x4x512 : Shape := ⟨3, ![4096, 4, 512]⟩
abbrev S1024x16x512 : Shape := ⟨3, ![1024, 16, 512]⟩
abbrev S3x16384x512 : Shape := ⟨3, ![3, 16384, 512]⟩
abbrev S_ : Shape := ⟨0, ![]⟩
abbrev S17408x512 : Shape := ⟨2, ![17408, 512]⟩
abbrev S17408 : Shape := ⟨1, ![17408]⟩
abbrev S17408x1 : Shape := ⟨2, ![17408, 1]⟩
abbrev S1x1024 : Shape := ⟨2, ![1, 1024]⟩
abbrev S17408x5632 : Shape := ⟨2, ![17408, 5632]⟩
abbrev S17408x2816 : Shape := ⟨2, ![17408, 2816]⟩

abbrev nBuf : Space → Nat
  | .hbm => 86
  | .vmem => 0
  | .smem => 0
  | _ => 0

abbrev bufTy : (tb : Table) → Fin (tcTables nBuf tb) → BufTy
  | .hbm, ⟨0, _⟩ => ⟨S17408x1024, .f32⟩
  | .hbm, ⟨1, _⟩ => ⟨S512x1024, .bf16⟩
  | .hbm, ⟨2, _⟩ => ⟨S1024, .f32⟩
  | .hbm, ⟨3, _⟩ => ⟨S1024x5632, .bf16⟩
  | .hbm, ⟨4, _⟩ => ⟨S2816x1024, .bf16⟩
  | .hbm, ⟨5, _⟩ => ⟨S1x16384x512, .f32⟩
  | .hbm, ⟨6, _⟩ => ⟨S1x16384x512, .f32⟩
  | .hbm, ⟨7, _⟩ => ⟨S4x4096x512, .f32⟩
  | .hbm, ⟨8, _⟩ => ⟨S4x4096x512, .f32⟩
  | .hbm, ⟨9, _⟩ => ⟨S16x1024x512, .f32⟩
  | .hbm, ⟨10, _⟩ => ⟨S16x1024x512, .f32⟩
  | .hbm, ⟨11, _⟩ => ⟨S1024x512, .f32⟩
  | .hbm, ⟨12, _⟩ => ⟨S16384x1x512, .f32⟩
  | .hbm, ⟨13, _⟩ => ⟨S16384x512, .f32⟩
  | .hbm, ⟨14, _⟩ => ⟨S4096x4x512, .f32⟩
  | .hbm, ⟨15, _⟩ => ⟨S16384x512, .f32⟩
  | .hbm, ⟨16, _⟩ => ⟨S1024x16x512, .f32⟩
  | .hbm, ⟨17, _⟩ => ⟨S16384x512, .f32⟩
  | .hbm, ⟨18, _⟩ => ⟨S1x16384x512, .f32⟩
  | .hbm, ⟨19, _⟩ => ⟨S1x16384x512, .f32⟩
  | .hbm, ⟨20, _⟩ => ⟨S1x16384x512, .f32⟩
  | .hbm, ⟨21, _⟩ => ⟨S3x16384x512, .f32⟩
  | .hbm, ⟨22, _⟩ => ⟨S16384x1x512, .f32⟩
  | .hbm, ⟨23, _⟩ => ⟨S16384x512, .f32⟩
  | .hbm, ⟨24, _⟩ => ⟨S4096x4x512, .f32⟩
  | .hbm, ⟨25, _⟩ => ⟨S16384x512, .f32⟩
  | .hbm, ⟨26, _⟩ => ⟨S1024x16x512, .f32⟩
  | .hbm, ⟨27, _⟩ => ⟨S16384x512, .f32⟩
  | .hbm, ⟨28, _⟩ => ⟨S1x16384x512, .f32⟩
  | .hbm, ⟨29, _⟩ => ⟨S1x16384x512, .f32⟩
  | .hbm, ⟨30, _⟩ => ⟨S1x16384x512, .f32⟩
  | .hbm, ⟨31, _⟩ => ⟨S3x16384x512, .f32⟩
  | .hbm, ⟨32, _⟩ => ⟨S_, .f32⟩
  | .hbm, ⟨33, _⟩ => ⟨S16384x512, .f32⟩
  | .hbm, ⟨34, _⟩ => ⟨S_, .f32⟩
  | .hbm, ⟨35, _⟩ => ⟨S16384x512, .f32⟩
  | .hbm, ⟨36, _⟩ => ⟨S16384x512, .f32⟩
  | .hbm, ⟨37, _⟩ => ⟨S1x16384x512, .f32⟩
  | .hbm, ⟨38, _⟩ => ⟨S3x16384x512, .f32⟩
  | .hbm, ⟨39, _⟩ => ⟨S3x16384x512, .f32⟩
  | .hbm, ⟨40, _⟩ => ⟨S3x16384x512, .f32⟩
  | .hbm, ⟨41, _⟩ => ⟨S_, .f32⟩
  | .hbm, ⟨42, _⟩ => ⟨S16384x512, .f32⟩
  | .hbm, ⟨43, _⟩ => ⟨S1x16384x512, .f32⟩
  | .hbm, ⟨44, _⟩ => ⟨S3x16384x512, .f32⟩
  | .hbm, ⟨45, _⟩ => ⟨S3x16384x512, .f32⟩
  | .hbm, ⟨46, _⟩ => ⟨S3x16384x512, .f32⟩
  | .hbm, ⟨47, _⟩ => ⟨S_, .f32⟩
  | .hbm, ⟨48, _⟩ => ⟨S16384x512, .f32⟩
  | .hbm, ⟨49, _⟩ => ⟨S17408x512, .f32⟩
  | .hbm, ⟨50, _⟩ => ⟨S512x1024, .f32⟩
  | .hbm, ⟨51, _⟩ => ⟨S17408x1024, .f32⟩
  | .hbm, ⟨52, _⟩ => ⟨S17408x1024, .f32⟩
  | .hbm, ⟨53, _⟩ => ⟨S17408x1024, .f32⟩
  | .hbm, ⟨54, _⟩ => ⟨S_, .f32⟩
  | .hbm, ⟨55, _⟩ => ⟨S17408, .f32⟩
  | .hbm, ⟨56, _⟩ => ⟨S17408x1, .f32⟩
  | .hbm, ⟨57, _⟩ => ⟨S_, .f32⟩
  | .hbm, ⟨58, _⟩ => ⟨S17408x1, .f32⟩
  | .hbm, ⟨59, _⟩ => ⟨S17408x1, .f32⟩
  | .hbm, ⟨60, _⟩ => ⟨S_, .f32⟩
  | .hbm, ⟨61, _⟩ => ⟨S17408x1, .f32⟩
  | .hbm, ⟨62, _⟩ => ⟨S17408x1, .f32⟩
  | .hbm, ⟨63, _⟩ => ⟨S17408x1, .f32⟩
  | .hbm, ⟨64, _⟩ => ⟨S17408x1024, .f32⟩
  | .hbm, ⟨65, _⟩ => ⟨S17408x1024, .f32⟩
  | .hbm, ⟨66, _⟩ => ⟨S1x1024, .f32⟩
  | .hbm, ⟨67, _⟩ => ⟨S17408x1024, .f32⟩
  | .hbm, ⟨68, _⟩ => ⟨S17408x1024, .f32⟩
  | .hbm, ⟨69, _⟩ => ⟨S1024x5632, .f32⟩
  | .hbm, ⟨70, _⟩ => ⟨S17408x5632, .f32⟩
  | .hbm, ⟨71, _⟩ => ⟨S17408x2816, .f32⟩
  | .hbm, ⟨72, _⟩ => ⟨S17408x2816, .f32⟩
  | .hbm, ⟨73, _⟩ => ⟨S17408x2816, .f32⟩
  | .hbm, ⟨74, _⟩ => ⟨S17408x2816, .f32⟩
  | .hbm, ⟨75, _⟩ => ⟨S_, .f32⟩
  | .hbm, ⟨76, _⟩ => ⟨S17408x2816, .f32⟩
  | .hbm, ⟨77, _⟩ => ⟨S17408x2816, .f32⟩
  | .hbm, ⟨78, _⟩ => ⟨S_, .f32⟩
  | .hbm, ⟨79, _⟩ => ⟨S17408x2816, .f32⟩
  | .hbm, ⟨80, _⟩ => ⟨S17408x2816, .f32⟩
  | .hbm, ⟨81, _⟩ => ⟨S17408x2816, .f32⟩
  | .hbm, ⟨82, _⟩ => ⟨S17408x2816, .f32⟩
  | .hbm, ⟨83, _⟩ => ⟨S2816x1024, .f32⟩
  | .hbm, ⟨84, _⟩ => ⟨S17408x1024, .f32⟩
  | .hbm, ⟨85, _⟩ => ⟨S17408x1024, .f32⟩
  | _, _ => ⟨S17408x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_cst : Ref sig .tc := ⟨.hbm, 32, rfl⟩
abbrev main_v20 : Ref sig .tc := ⟨.hbm, 33, rfl⟩
abbrev main_cst_0 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_cst_1 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_cst_2 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_cst_3 : Ref sig .tc := ⟨.hbm, 54, rfl⟩
abbrev main_v38 : Ref sig .tc := ⟨.hbm, 55, rfl⟩
abbrev main_v39 : Ref sig .tc := ⟨.hbm, 56, rfl⟩
abbrev main_cst_4 : Ref sig .tc := ⟨.hbm, 57, rfl⟩
abbrev main_v40 : Ref sig .tc := ⟨.hbm, 58, rfl⟩
abbrev main_v41 : Ref sig .tc := ⟨.hbm, 59, rfl⟩
abbrev main_cst_5 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_call0_v0 : Ref sig .tc := ⟨.hbm, 73, rfl⟩
abbrev main_call0_v1 : Ref sig .tc := ⟨.hbm, 74, rfl⟩
abbrev main_call0_cst : Ref sig .tc := ⟨.hbm, 75, rfl⟩
abbrev main_call0_v2 : Ref sig .tc := ⟨.hbm, 76, rfl⟩
abbrev main_call0_v3 : Ref sig .tc := ⟨.hbm, 77, rfl⟩
abbrev main_call0_cst_0 : Ref sig .tc := ⟨.hbm, 78, rfl⟩
abbrev main_call0_v4 : Ref sig .tc := ⟨.hbm, 79, rfl⟩
abbrev main_call0_v5 : Ref sig .tc := ⟨.hbm, 80, rfl⟩
abbrev main_v54 : Ref sig .tc := ⟨.hbm, 81, rfl⟩
abbrev main_v55 : Ref sig .tc := ⟨.hbm, 82, rfl⟩
abbrev main_v56 : Ref sig .tc := ⟨.hbm, 83, rfl⟩
abbrev main_v57 : Ref sig .tc := ⟨.hbm, 84, rfl⟩
abbrev main_v58 : Ref sig .tc := ⟨.hbm, 85, rfl⟩

abbrev nD : Nat := 1
abbrev τ : Topo := Topo.v7x

variable {F : FTy → Type} [FloatOps F]
-- ==== Proof.Softmax.lean ====
/- The normalization of a row of scores with a sink, on the extended reals: the quotient of the two sums, and the same row by its logarithm. -/
module

public import Idealize.ShloMosaic.Lib.Pointwise

@[expose] public section

noncomputable section

open Idealize.ShloMosaic

namespace Cert.Softmax

/-- The exponential of a score, as a real number; zero for a masked key. -/
def ex (x : EReal) : ℝ := (Ideal.exp x).toReal

theorem ex_bot : ex ⊥ = 0 := by simp [ex]
theorem ex_coe (r : ℝ) : ex r = Real.exp r := by simp [ex]

theorem ex_nonneg (x : EReal) : 0 ≤ ex x := by
  induction x using EReal.rec with
  | bot => simp [ex]
  | coe r => rw [ex_coe]; exact (Real.exp_pos r).le
  | top => simp [ex]

theorem ex_pos {x : EReal} (hx : x ≠ ⊤) (hb : x ≠ ⊥) : 0 < ex x := by
  induction x using EReal.rec with
  | bot => exact absurd rfl hb
  | coe r => rw [ex_coe]; exact Real.exp_pos r
  | top => exact absurd rfl hx

theorem exp_sub {x : EReal} (hx : x ≠ ⊤) (μ : ℝ) : Ideal.exp (x - (μ : EReal)) = ((ex x * Real.exp (-μ) : ℝ) : EReal) := by
  induction x using EReal.rec with
  | bot => simp [ex]
  | coe r =>
    rw [ex_coe, ← Real.exp_add, ← EReal.coe_sub, Ideal.exp_coe, sub_eq_add_neg]
  | top => exact absurd rfl hx

theorem coe_sum {ι : Type} (s : Finset ι) (f : ι → ℝ) : ((∑ j ∈ s, f j : ℝ) : EReal) = ∑ j ∈ s, (f j : EReal) := by
  classical
  induction s using Finset.induction_on with
  | empty => simp
  | insert a s ha ih => rw [Finset.sum_insert ha, Finset.sum_insert ha, EReal.coe_add, ih]

theorem sum_mul_coe {ι : Type} (s : Finset ι) (f : ι → EReal) {t : ℝ} (ht : 0 ≤ t) :
    (∑ j ∈ s, f j) * (t : EReal) = ∑ j ∈ s, f j * (t : EReal) := by
  classical
  induction s using Finset.induction_on with
  | empty => simp
  | insert a s ha ih =>
    rw [Finset.sum_insert ha, Finset.sum_insert ha, ← ih]
    exact EReal.right_distrib_of_nonneg_of_ne_top (by exact_mod_cast ht) (EReal.coe_ne_top t) _ _

variable {ι : Type} [Fintype ι]

/-- The sum of the exponentials of the scores and of the sink. -/
def tot (s : ι → EReal) (k : EReal) : ℝ := (∑ j, ex (s j)) + ex k

theorem tot_pos (s : ι → EReal) (k : EReal) (hs : ∀ j, s j ≠ ⊤) (hf : ∃ j, s j ≠ ⊥) : 0 < tot s k := by
  obtain ⟨j, hj⟩ := hf
  refine add_pos_of_pos_of_nonneg ?_ (ex_nonneg k)
  exact Finset.sum_pos' (fun i _ => ex_nonneg _) ⟨j, Finset.mem_univ j, ex_pos (hs j) hj⟩

/-- The quotient of the two sums, whatever real number the scores are taken off from. -/
theorem quotient (own : ι → Prop) [DecidablePred own] (s vo vp : ι → EReal) (k : EReal) (hs : ∀ j, s j ≠ ⊤) (hk : k ≠ ⊤)
    (hf : ∃ j, s j ≠ ⊥) (μ : ℝ) :
    Ideal.div ((∑ j, (if own j then Ideal.exp (s j - (μ : EReal)) else 0) * vo j) + ∑ j, (if own j then 0 else Ideal.exp (s j - (μ : EReal))) * vp j)
        ((∑ j, Ideal.exp (s j - (μ : EReal))) + Ideal.exp (k - (μ : EReal)))
      = ∑ j, ((ex (s j) / tot s k : ℝ) : EReal) * (if own j then vo j else vp j) := by
  have hp := tot_pos s k hs hf
  have he := Real.exp_pos (-μ)
  have hd : (∑ j, Ideal.exp (s j - (μ : EReal))) + Ideal.exp (k - (μ : EReal)) = ((tot s k * Real.exp (-μ) : ℝ) : EReal) := by
    rw [exp_sub hk, Finset.sum_congr rfl fun j _ => exp_sub (hs j) μ, ← coe_sum, ← EReal.coe_add, ← Finset.sum_mul, ← add_mul]; rfl
  have hn : (∑ j, (if own j then Ideal.exp (s j - (μ : EReal)) else 0) * vo j) + ∑ j, (if own j then 0 else Ideal.exp (s j - (μ : EReal))) * vp j
      = ∑ j, ((ex (s j) * Real.exp (-μ) : ℝ) : EReal) * (if own j then vo j else vp j) := by
    rw [← Finset.sum_add_distrib]
    refine Finset.sum_congr rfl fun j _ => ?_
    by_cases h : own j <;> simp [h, exp_sub (hs j) μ]
  rw [hd, hn, Ideal.div, if_neg (by exact_mod_cast (mul_pos hp he).ne'), ← EReal.coe_inv, sum_mul_coe _ _ (inv_nonneg.mpr (mul_pos hp he).le)]
  refine Finset.sum_congr rfl fun j _ => ?_
  rw [mul_right_comm, ← EReal.coe_mul]
  congr 2
  field_simp

/-- The logarithm of a sum of exponentials, whatever real number the scores are taken off from. -/
theorem log_sum (s : ι → EReal) (hs : ∀ j, s j ≠ ⊤) (hf : ∃ j, s j ≠ ⊥) (τ : ℝ) :
    Ideal.log (∑ j, Ideal.exp (s j - (τ : EReal))) + (τ : EReal) = ((Real.log (∑ j, ex (s j)) : ℝ) : EReal) := by
  have hp : 0 < ∑ j, ex (s j) := by simpa [tot, ex_bot] using tot_pos s ⊥ hs hf
  have he := Real.exp_pos (-τ)
  rw [Finset.sum_congr rfl fun j _ => exp_sub (hs j) τ, ← coe_sum, ← Finset.sum_mul, Ideal.log_coe,
    if_neg (not_le.mpr (mul_pos hp he)), ← EReal.coe_add, Real.log_mul hp.ne' he.ne', Real.log_exp]
  congr 1
  ring

theorem logaddexp_real (a b : ℝ) : max a b + Real.log (1 + Real.exp (-max (a - b) (-(a - b)))) = Real.log (Real.exp a + Real.exp b) := by
  rcases le_total a b with h | h
  · rw [max_eq_right h, max_eq_right (by linarith)]
    have : Real.exp a + Real.exp b = Real.exp b * (1 + Real.exp (-(-(a - b)))) := by
      rw [mul_add, ← Real.exp_add, mul_one]; ring_nf
    rw [this, Real.log_mul (Real.exp_pos _).ne' (by positivity), Real.log_exp]
  · rw [max_eq_left h, max_eq_left (by linarith)]
    have : Real.exp a + Real.exp b = Real.exp a * (1 + Real.exp (-(a - b))) := by
      rw [mul_add, ← Real.exp_add, mul_one]; ring_nf
    rw [this, Real.log_mul (Real.exp_pos _).ne' (by positivity), Real.log_exp]

/-- The logarithm of the sum of two exponentials, written by the greater one. -/
theorem logaddexp (a : ℝ) (k : EReal) (hk : k ≠ ⊤) :
    max (a : EReal) k + Ideal.log1p (Ideal.exp (-(max ((a : EReal) - k) (-((a : EReal) - k))))) = ((Real.log (Real.exp a + ex k) : ℝ) : EReal) := by
  induction k using EReal.rec with
  | bot =>
    have h1 : Ideal.log 1 = 0 := by rw [← EReal.coe_one, Ideal.log_coe]; simp
    simp [ex_bot, Ideal.log1p, h1]
  | coe b =>
    rw [ex_coe, ← logaddexp_real, ← EReal.coe_sub, ← EReal.coe_neg, Ideal.log1p]
    rw [← EReal.coe_strictMono.monotone.map_max, ← EReal.coe_strictMono.monotone.map_max, ← EReal.coe_neg, Ideal.exp_coe, ← EReal.coe_one, ← EReal.coe_add,
      Ideal.log_coe, if_neg (not_le.mpr (by positivity)), ← EReal.coe_add]
  | top => exact absurd rfl hk

/-- The row by its logarithm: twice as many scores, one of each pair masked. -/
theorem byLog (own : Fin 128 → Prop) [DecidablePred own] (s : Fin 128 → EReal) (S V : Fin 256 → EReal) (k : EReal)
    (hs : ∀ j, s j ≠ ⊤) (hk : k ≠ ⊤) (hf : ∃ j, s j ≠ ⊥)
    (hlo : ∀ j : Fin 128, S (Fin.castAdd 128 j) = if own j then ⊥ else s j)
    (hhi : ∀ j : Fin 128, S (Fin.natAdd 128 j) = if own j then s j else ⊥) (τ : ℝ) (lse1 lse : EReal)
    (h1 : lse1 = Ideal.log (∑ c, Ideal.exp (S c - (τ : EReal))) + (τ : EReal))
    (h2 : lse = max lse1 k + Ideal.log1p (Ideal.exp (-(max (lse1 - k) (-(lse1 - k)))))) :
    (∑ c, Ideal.exp (S c - lse) * V c)
      = ∑ j, ((ex (s j) / tot s k : ℝ) : EReal) * (if own j then V (Fin.natAdd 128 j) else V (Fin.castAdd 128 j)) := by
  have hp := tot_pos s k hs hf
  have hS : ∀ c, S c ≠ ⊤ := by
    intro c
    refine Fin.addCases (m := 128) (n := 128) (motive := fun c => S c ≠ ⊤) (fun j => ?_) (fun j => ?_) c
    · rw [hlo]; split_ifs; exacts [by simp, hs j]
    · rw [hhi]; split_ifs; exacts [hs j, by simp]
  have hF : ∃ c, S c ≠ ⊥ := by
    obtain ⟨j, hj⟩ := hf
    by_cases h : own j
    · exact ⟨Fin.natAdd 128 j, by rw [hhi, if_pos h]; exact hj⟩
    · exact ⟨Fin.castAdd 128 j, by rw [hlo, if_neg h]; exact hj⟩
  have hsum : ∑ c, ex (S c) = ∑ j, ex (s j) := by
    rw [show (∑ c, ex (S c)) = ∑ c : Fin (128 + 128), ex (S c) from rfl, Fin.sum_univ_add, ← Finset.sum_add_distrib]
    refine Finset.sum_congr rfl fun j _ => ?_
    rw [hlo, hhi]
    by_cases h : own j <;> simp [h, ex_bot]
  have hX : 0 < ∑ j, ex (s j) := by simpa [tot, ex_bot] using tot_pos s ⊥ hs hf
  rw [log_sum S hS hF τ, hsum] at h1
  rw [h1, logaddexp _ k hk, Real.exp_log hX] at h2
  have hterm : ∀ x : EReal, x ≠ ⊤ → Ideal.exp (x - lse) = ((ex x / tot s k : ℝ) : EReal) := by
    intro x hx
    rw [h2, exp_sub hx, Real.exp_neg]; change ((ex x * (Real.exp (Real.log (tot s k)))⁻¹ : ℝ) : EReal) = _; rw [Real.exp_log hp]; rfl
  rw [show (∑ c, Ideal.exp (S c - lse) * V c) = ∑ c : Fin (128 + 128), Ideal.exp (S c - lse) * V c from rfl, Fin.sum_univ_add, ← Finset.sum_add_distrib]
  refine Finset.sum_congr rfl fun j _ => ?_
  rw [hterm _ (hS _), hterm _ (hS _), hlo, hhi]
  by_cases h : own j <;> simp [h, ex_bot]

/-- The greatest of finitely many numbers, none plus infinity, is not plus infinity. -/
theorem fold_ne_top {κ : Type} (t : Finset κ) (f : κ → EReal) (b : EReal) (hb : b ≠ ⊤) (hf : ∀ j, f j ≠ ⊤) : t.fold max b f ≠ ⊤ := by
  rw [← lt_top_iff_ne_top, Finset.fold_max_lt]
  exact ⟨lt_top_iff_ne_top.mpr hb, fun j _ => lt_top_iff_ne_top.mpr (hf j)⟩

/-- The greatest of numbers one of which is not minus infinity is not minus infinity. -/
theorem fold_ne_bot {κ : Type} (t : Finset κ) (f : κ → EReal) (b : EReal) (j : κ) (hj : j ∈ t) (hf : f j ≠ ⊥) : t.fold max b f ≠ ⊥ := by
  intro h
  have : f j ≤ t.fold max b f := (Finset.le_fold_max _).mpr (Or.inr ⟨j, hj, le_rfl⟩)
  rw [h, le_bot_iff] at this
  exact hf this

theorem real_of {x : EReal} (h1 : x ≠ ⊤) (h2 : x ≠ ⊥) : ∃ r : ℝ, x = (r : EReal) := ⟨x.toReal, (EReal.coe_toReal h1 h2).symm⟩

end Cert.Softmax
end
-- ==== Proof.Rows.lean ====
/- The banded attention, element by element: its scores and its result over the projections' array. -/
module

public import proofs.«01_k».proof.Proof.Softmax
public import Idealize.ShloMosaic.Lib.Pointwise

@[expose] public section

noncomputable section

open Idealize.ShloMosaic

namespace Cert.Band

/-- Neither plus nor minus infinity. -/
def Fin' (x : EReal) : Prop := x ≠ ⊤ ∧ x ≠ ⊥

theorem fin_iff {x : EReal} : Fin' x ↔ ∃ r : ℝ, x = r := by
  constructor
  · rintro ⟨h1, h2⟩; exact Cert.Softmax.real_of h1 h2
  · rintro ⟨r, rfl⟩; exact ⟨EReal.coe_ne_top r, EReal.coe_ne_bot r⟩

theorem fin_mul {x y : EReal} (hx : Fin' x) (hy : Fin' y) : Fin' (x * y) := by
  obtain ⟨a, rfl⟩ := fin_iff.mp hx; obtain ⟨b, rfl⟩ := fin_iff.mp hy
  exact fin_iff.mpr ⟨a * b, (EReal.coe_mul a b).symm⟩

theorem fin_sub {x y : EReal} (hx : Fin' x) (hy : Fin' y) : Fin' (x - y) := by
  obtain ⟨a, rfl⟩ := fin_iff.mp hx; obtain ⟨b, rfl⟩ := fin_iff.mp hy
  exact fin_iff.mpr ⟨a - b, (EReal.coe_sub a b).symm⟩

theorem fin_sum {κ : Type} (t : Finset κ) (f : κ → EReal) (hf : ∀ j, Fin' (f j)) : Fin' (∑ j ∈ t, f j) := by
  choose g hg using fun j => fin_iff.mp (hf j)
  exact fin_iff.mpr ⟨∑ j ∈ t, g j, by rw [Cert.Softmax.coe_sum]; exact Finset.sum_congr rfl fun j _ => hg j⟩

theorem fin_nat (n : ℕ) : Fin' (((n : ℕ) : ℝ) : EReal) := fin_iff.mpr ⟨_, rfl⟩

/-- The projections' array at a row and a column. -/
def rd (x : (⟨3, ![1, 17408, 1536]⟩ : Shape).Idx → EReal) (R C : ℕ) : EReal :=
  if h : R < 17408 ∧ C < 1536 then x (ix3 0 ⟨R, h.1⟩ ⟨C, h.2⟩) else 0

theorem rd_eq (x : (⟨3, ![1, 17408, 1536]⟩ : Shape).Idx → EReal) (R : Fin 17408) (C : Fin 1536) : x (ix3 0 R C) = rd x R.val C.val := by
  rw [rd, dif_pos ⟨R.isLt, C.isLt⟩]

/-- The sinks by their number. -/
def rs (k : (⟨1, ![16]⟩ : Shape).Idx → EReal) (n : ℕ) : EReal := if h : n < 16 then k (ix1 ⟨n, h⟩) else 0

theorem rs_eq (k : (⟨1, ![16]⟩ : Shape).Idx → EReal) (n : Fin 16) : k (ix1 n) = rs k n.val := by
  rw [rs, dif_pos n.isLt]

/-- The slope of query head `e` of pair `J`. -/
def slope (J e : ℕ) : EReal :=
  Ideal.ofBits .f32 ((([0x3F3504F3, 0x3E3504F3, 0x3F000000, 0x3E000000, 0x3EB504F3, 0x3DB504F3, 0x3E800000, 0x3D800000,
    0x3D3504F3, 0x3C3504F3, 0x3D000000, 0x3C000000, 0x3CB504F3, 0x3BB504F3, 0x3C800000, 0x3B800000] : List (BitVec 32)).getD (2 * J + e) 0))

/-- The score of key `j` of the window at row `R` for query head `e` of pair `J`. -/
def score (x : (⟨3, ![1, 17408, 1536]⟩ : Shape).Idx → EReal) (R J e : ℕ) (j : Fin 128) : EReal :=
  if j.val ≤ R % 128 then
    (∑ d : Fin 64, rd x R (128 * J + 64 * e + d.val) * rd x (R / 128 * 128 + j.val) (1024 + 128 * (J / 4) + 64 * e + d.val))
      - slope J e * ((R % 128 - j.val : ℕ) : ℝ)
  else if 0 < R / 128 % 64 then
    (∑ d : Fin 64, rd x R (128 * J + 64 * e + d.val) * rd x ((R / 128 - 1) * 128 + j.val) (1024 + 128 * (J / 4) + 64 * e + d.val))
      - slope J e * ((128 + R % 128 - j.val : ℕ) : ℝ)
  else ⊥

/-- One element of the attention's result: lane `d` of query head `e` of pair `J` at row `R`. -/
def result (x : (⟨3, ![1, 17408, 1536]⟩ : Shape).Idx → EReal) (k : (⟨1, ![16]⟩ : Shape).Idx → EReal) (R J e d : ℕ) : EReal :=
  ∑ j : Fin 128, ((Cert.Softmax.ex (score x R J e j) / Cert.Softmax.tot (score x R J e) (rs k (2 * J + e)) : ℝ) : EReal)
    * (if j.val ≤ R % 128 then rd x (R / 128 * 128 + j.val) (1280 + 128 * (J / 4) + 64 * e + d)
       else if 0 < R / 128 % 64 then rd x ((R / 128 - 1) * 128 + j.val) (1280 + 128 * (J / 4) + 64 * e + d) else 0)

/-- What the claim supposes: the prompt's queries and keys are finite, and no sink is plus infinity. -/
structure Fine (x : (⟨3, ![1, 17408, 1536]⟩ : Shape).Idx → EReal) (k : (⟨1, ![16]⟩ : Shape).Idx → EReal) : Prop where
  qk : ∀ R C : ℕ, R < 16384 → C < 1280 → Fin' (rd x R C)
  sink : ∀ n : ℕ, rs k n ≠ ⊤

theorem slope_fin (J e : ℕ) (hJ : J < 8) (he : e < 2) : Fin' (slope J e) := by
  have h : ∀ n : Fin 16, Fin' (Ideal.ofBits .f32 ((([0x3F3504F3, 0x3E3504F3, 0x3F000000, 0x3E000000, 0x3EB504F3, 0x3DB504F3, 0x3E800000, 0x3D800000,
    0x3D3504F3, 0x3C3504F3, 0x3D000000, 0x3C000000, 0x3CB504F3, 0x3BB504F3, 0x3C800000, 0x3B800000] : List (BitVec 32)).getD n.val 0))) := by
    intro n
    rw [fin_iff]
    fin_cases n <;> (simp only [List.getD_cons_zero, List.getD_cons_succ]; first | (simp [Ideal.ofBits, Ideal.ieee, -EReal.coe_mul]; done) | (simp [Ideal.ofBits, Ideal.ieee, -EReal.coe_mul]; exact ⟨_, rfl⟩))
  exact h ⟨2 * J + e, by omega⟩

variable {x : (⟨3, ![1, 17408, 1536]⟩ : Shape).Idx → EReal} {k : (⟨1, ![16]⟩ : Shape).Idx → EReal}

theorem score_own (hf : Fine x k) (R J e : ℕ) (hR : R < 16384) (hJ : J < 8) (he : e < 2) (j : Fin 128) (hj : j.val ≤ R % 128) : Fin' (score x R J e j) := by
  rw [score, if_pos hj]
  exact fin_sub (fin_sum _ _ fun d => fin_mul (hf.qk _ _ (by omega) (by omega)) (hf.qk _ _ (by omega) (by omega))) (fin_mul (slope_fin J e hJ he) (fin_nat _))

theorem score_ne_top (hf : Fine x k) (R J e : ℕ) (hR : R < 16384) (hJ : J < 8) (he : e < 2) (j : Fin 128) : score x R J e j ≠ ⊤ := by
  by_cases hj : j.val ≤ R % 128
  · exact (score_own hf R J e hR hJ he j hj).1
  · rw [score, if_neg hj]
    split_ifs
    · exact (fin_sub (fin_sum _ _ fun d => fin_mul (hf.qk _ _ (by omega) (by omega)) (hf.qk _ _ (by omega) (by omega))) (fin_mul (slope_fin J e hJ he) (fin_nat _))).1
    · exact bot_ne_top

theorem score_some (hf : Fine x k) (R J e : ℕ) (hR : R < 16384) (hJ : J < 8) (he : e < 2) : ∃ j, score x R J e j ≠ ⊥ :=
  ⟨⟨R % 128, by omega⟩, (score_own hf R J e hR hJ he _ le_rfl).2⟩

end Cert.Band

end
-- ==== Proof.Band.lean ====
/- The banded attention of the prompt: the blocks of a grid point, pair by pair. -/
module

public import proofs.«01_k».proof.Proof.Gen.KernelIdeal.Value
public import proofs.«01_k».proof.Proof.Rows
public import Idealize.ShloMosaic.Lib.Pointwise
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.KernelIdeal.Mine

open Cert.KernelIdeal Cert.KernelIdeal.Gen Cert.Band

/-- A column of two numbers: the first over the upper rows, the second over the lower. -/
def colV (a b : Elt Ideal .f32) : FVec Ideal S256x1 .f32 :=
  select k0_pay6 (broadcast S256x1 a) (broadcast S256x1 b)

/-- A block without its leading axis. -/
def flatV (x : Vec Ideal S1x128x128 .bf16) : FVec Ideal S128x128 .bf16 := shapeCast S128x128 x shapeCasts_S1x128x128_S128x128

/-- The queries of a pair, the first of them over the upper rows and the second over the lower, zero on the lanes of the other. -/
def pairV (q : Vec Ideal S1x128x128 .bf16) : FVec Ideal S256x128 .bf16 :=
  concatenate S256x128 0 [⟨S128x128, select k0_pay7 (flatV q) (broadcast S128x128 (Scalar.ofBits .bf16 0x0000#16))⟩,
    ⟨S128x128, select k0_pay7 (broadcast S128x128 (Scalar.ofBits .bf16 0x0000#16)) (flatV q)⟩] concatenates_S128x128_S128x128_S256x128_d0

/-- The scores of a pair, masked. -/
def scoreV (i : grid0.Coords) (s0 s1 : BitVec 32) (q ko kp : Vec Ideal S1x128x128 .bf16) : FVec Ideal S256x128 .f32 :=
  select (k0_pay5 i)
    (subf (select k0_pay3
        (matmul dot_S256x128_S128x128_S256x128_1_1_0_0_n_n none (pairV q) (flatV ko) (constant S256x128 .f32 0x00000000#32))
        (matmul dot_S256x128_S128x128_S256x128_1_1_0_0_n_n none (pairV q) (flatV kp) (constant S256x128 .f32 0x00000000#32)))
      (mulf (broadcastTo S256x128 (colV (Scalar.ofBits (F := Ideal) .f32 s0) (Scalar.ofBits (F := Ideal) .f32 s1)) broadcasts_S256x1_S256x128) (k0_pay4 (F := Ideal))))
    (broadcast S256x128 (Named.named (F := Ideal) κ "mask" 0xF149F2CA#32))

/-- The greatest score of each row, or its sink where that is greater. -/
def maxV (S : FVec Ideal S256x128 .f32) (k : FVec Ideal S256x1 .f32) : FVec Ideal S256x1 .f32 :=
  maximumf (shapeCast S256x1 (multiReduction .maximumf [1] S256 S 0xFF800000#32 reduces_S256x128_S256 (.inl rfl) rfl) shapeCasts_S256_S256x1) k

/-- The exponentials of the scores over a row's maximum. -/
def expV (S : FVec Ideal S256x128 .f32) (M : FVec Ideal S256x1 .f32) : FVec Ideal S256x128 .f32 :=
  exp (subf S (broadcastTo S256x128 M broadcasts_S256x1_S256x128))

/-- The weighted sum of the values over the sum of the weights, the sink's one among them. -/
def quotV (E : FVec Ideal S256x128 .f32) (M k : FVec Ideal S256x1 .f32) (vo vp : Vec Ideal S1x128x128 .bf16) : FVec Ideal S256x128 .f32 :=
  divf
    (addf
      (matmul dot_S256x128_S128x128_S256x128_1_0_0_1_n_n none (select k0_pay3 (truncf .bf16 E bitsLt_bf16_f32) (broadcast S256x128 (Scalar.ofBits .bf16 0x0000#16)))
        (flatV vo) (constant S256x128 .f32 0x00000000#32))
      (matmul dot_S256x128_S128x128_S256x128_1_0_0_1_n_n none (select k0_pay3 (broadcast S256x128 (Scalar.ofBits .bf16 0x0000#16)) (truncf .bf16 E bitsLt_bf16_f32))
        (flatV vp) (constant S256x128 .f32 0x00000000#32)))
    (broadcastTo S256x128
      (addf (shapeCast S256x1 (multiReduction .add [1] S256 E 0x00000000#32 reduces_S256x128_S256 (.inl rfl) rfl) shapeCasts_S256_S256x1) (exp (subf k M)))
      broadcasts_S256x1_S256x128)

/-- The block of a pair: each half of the lanes from its own half of the rows. -/
def joinV (Q : FVec Ideal S256x128 .f32) : FVec Ideal S1x128x128 .bf16 :=
  shapeCast S1x128x128 (truncf .bf16 (select k0_pay7 (extractStridedSlice S128x128 ![0, 0] Q slices_S256x128_o0_0_S128x128)
    (extractStridedSlice S128x128 ![128, 0] Q slices_S256x128_o128_0_S128x128)) bitsLt_bf16_f32) shapeCasts_S128x128_S1x128x128

/-- What a grid point stores for a pair of heads. -/
def pairOut (i : grid0.Coords) (s0 s1 : BitVec 32) (q ko kp vo vp : Vec Ideal S1x128x128 .bf16) (u w : Elt Ideal .f32) : FVec Ideal S1x128x128 .bf16 :=
  joinV (quotV (expV (scoreV i s0 s1 q ko kp) (maxV (scoreV i s0 s1 q ko kp) (colV u w))) (maxV (scoreV i s0 s1 q ko kp) (colV u w)) (colV u w) vo vp)

theorem same0 (i : grid0.Coords) (q ko kp vo vp : Vec Ideal S1x128x128 .bf16) (u w : Elt Ideal .f32) :
    k0_pay18 k0_pay3 k0_pay7 (k0_pay9 vp) (k0_pay11 k0_pay6 u w) (k0_pay12 k0_pay3 k0_pay4 (k0_pay5 i) k0_pay6 k0_pay7 (k0_pay8 q) ko kp u w) (k0_pay14 k0_pay3 k0_pay4 (k0_pay5 i) k0_pay6 k0_pay7 (k0_pay8 q) ko kp u w) (k0_pay15 k0_pay3 k0_pay4 (k0_pay5 i) k0_pay6 k0_pay7 (k0_pay8 q) ko kp u w) k0_pay16 (k0_pay17 k0_pay3 k0_pay4 (k0_pay5 i) k0_pay6 k0_pay7 (k0_pay8 q) ko kp vo u w) = pairOut i 0x3F3504F3#32 0x3E3504F3#32 q ko kp vo vp u w := rfl

theorem same1 (i : grid0.Coords) (q ko kp vo vp : Vec Ideal S1x128x128 .bf16) (u w : Elt Ideal .f32) :
    k0_pay23 k0_pay3 k0_pay4 (k0_pay5 i) k0_pay6 k0_pay7 (k0_pay19 vo) (k0_pay20 vp) (k0_pay21 k0_pay6) (k0_pay22 k0_pay3 k0_pay7 q ko kp) u w = pairOut i 0x3F000000#32 0x3E000000#32 q ko kp vo vp u w := rfl

theorem same2 (i : grid0.Coords) (q ko kp vo vp : Vec Ideal S1x128x128 .bf16) (u w : Elt Ideal .f32) :
    k0_pay36 k0_pay7 (k0_pay26 vp) (k0_pay28 k0_pay6 u w) (k0_pay29 k0_pay3 k0_pay4 (k0_pay5 i) k0_pay6 k0_pay7 (k0_pay24 q) (k0_pay25 ko) kp u w) (k0_pay31 k0_pay3 k0_pay4 (k0_pay5 i) k0_pay6 k0_pay7 (k0_pay24 q) (k0_pay25 ko) kp u w) (k0_pay34 k0_pay3 k0_pay4 (k0_pay5 i) k0_pay6 k0_pay7 (k0_pay24 q) (k0_pay25 ko) kp vo u w) (k0_pay35 k0_pay3 k0_pay4 (k0_pay5 i) k0_pay6 k0_pay7 (k0_pay24 q) (k0_pay25 ko) kp u w) (constant S256x128 .f32 0x00000000#32) = pairOut i 0x3EB504F3#32 0x3DB504F3#32 q ko kp vo vp u w := rfl

theorem same3 (i : grid0.Coords) (q ko kp vo vp : Vec Ideal S1x128x128 .bf16) (u w : Elt Ideal .f32) :
    k0_pay41 k0_pay3 (k0_pay5 i) k0_pay6 k0_pay7 (k0_pay37 vo) (k0_pay38 vp) (k0_pay39 k0_pay3 k0_pay7 q ko kp) (k0_pay40 k0_pay4 k0_pay6) u w = pairOut i 0x3E800000#32 0x3D800000#32 q ko kp vo vp u w := rfl

theorem same4 (i : grid0.Coords) (q ko kp vo vp : Vec Ideal S1x128x128 .bf16) (u w : Elt Ideal .f32) :
    k0_pay50 k0_pay7 (k0_pay45 k0_pay6 u w) (k0_pay46 k0_pay3 k0_pay4 (k0_pay5 i) k0_pay6 k0_pay7 (k0_pay42 q) (k0_pay43 ko) kp u w) (k0_pay48 k0_pay3 k0_pay4 (k0_pay5 i) k0_pay6 k0_pay7 (k0_pay42 q) (k0_pay43 ko) kp u w) (k0_pay49 k0_pay3 k0_pay4 (k0_pay5 i) k0_pay6 k0_pay7 (k0_pay42 q) (k0_pay43 ko) kp vo vp u w) = pairOut i 0x3D3504F3#32 0x3C3504F3#32 q ko kp vo vp u w := rfl

theorem same5 (i : grid0.Coords) (q ko kp vo vp : Vec Ideal S1x128x128 .bf16) (u w : Elt Ideal .f32) :
    k0_pay54 k0_pay3 (k0_pay5 i) k0_pay6 k0_pay7 (k0_pay51 vo) (k0_pay52 vp) (k0_pay53 k0_pay3 k0_pay4 k0_pay6 k0_pay7 q ko kp) (Named.named (F := Ideal) κ "mask" 0xF149F2CA#32) u w = pairOut i 0x3D000000#32 0x3C000000#32 q ko kp vo vp u w := rfl

theorem same6 (i : grid0.Coords) (q ko kp vo vp : Vec Ideal S1x128x128 .bf16) (u w : Elt Ideal .f32) :
    k0_pay65 k0_pay7 (k0_pay62 k0_pay3 k0_pay4 (k0_pay5 i) k0_pay6 k0_pay7 (k0_pay55 q) (k0_pay56 ko) (k0_pay57 kp) u w) (k0_pay63 k0_pay3 k0_pay4 (k0_pay5 i) k0_pay6 k0_pay7 (k0_pay55 q) (k0_pay56 ko) (k0_pay57 kp) vo vp u w) (k0_pay64 k0_pay3 k0_pay4 (k0_pay5 i) k0_pay6 k0_pay7 (k0_pay55 q) (k0_pay56 ko) (k0_pay57 kp) u w) = pairOut i 0x3CB504F3#32 0x3BB504F3#32 q ko kp vo vp u w := rfl

theorem same7 (i : grid0.Coords) (q ko kp vo vp : Vec Ideal S1x128x128 .bf16) (u w : Elt Ideal .f32) :
    k0_pay1 k0_pay3 k0_pay6 k0_pay7 (k0_pay66 vo) (k0_pay67 vp) (k0_pay68 k0_pay3 k0_pay4 (k0_pay5 i) k0_pay6 k0_pay7 q ko kp) u w = pairOut i 0x3C800000#32 0x3B800000#32 q ko kp vo vp u w := rfl

/-- The row of a block a score's row belongs to. -/
def lowRow (R : Fin 256) : Fin 128 := ⟨R.val % 128, Nat.mod_lt _ (by decide)⟩

/-- Lane `d` of the half a score's row belongs to. -/
def lane (R : Fin 256) (d : Fin 64) : Fin 128 := ⟨64 * (R.val / 128) + d.val, by omega⟩

theorem pay2_at (R : Fin 256) (j : Fin 128) : k0_pay2 (ix2 R j) = BitVec.ofNat 32 (R % 128) := by
  pointwise [k0_pay2]
  revert R
  decide +kernel

theorem pay3_at (R : Fin 256) (j : Fin 128) : k0_pay3 (ix2 R j) = if j ≤ lowRow R then 1#1 else 0#1 := by
  pointwise [k0_pay3]
  rw [pay2_at]
  have key : ∀ a b : Fin 128, IntOp.cmpi CmpIPredicate.sle (BitVec.ofNat 32 a.val) (BitVec.ofNat 32 b.val) = if a ≤ b then 1#1 else 0#1 := by decide +kernel
  exact key j (lowRow R)

/-- How far back a key lies. -/
def dist (R : Fin 256) (j : Fin 128) : ℕ := if j ≤ lowRow R then (lowRow R).val - j.val else 128 + (lowRow R).val - j.val

theorem pay4_at (R : Fin 256) (j : Fin 128) : k0_pay4 (F := Ideal) (ix2 R j) = (((dist R j : ℕ) : ℝ) : EReal) := by
  pointwise [k0_pay4]
  rw [pay2_at, pay3_at]
  have key : ∀ a b : Fin 128, (IntOp.muli (Scalar.select (if a ≤ b then 1#1 else 0#1) (IntOp.subi (BitVec.ofNat 32 b.val) (BitVec.ofNat 32 a.val))
      (IntOp.subi (IntOp.addi (128#32) (BitVec.ofNat 32 b.val)) (BitVec.ofNat 32 a.val))) 1#32).toInt
      = ((if a ≤ b then b.val - a.val else 128 + b.val - a.val : ℕ) : ℤ) := by decide +kernel
  have := key j (lowRow R)
  change (((BitVec.toInt _ : ℤ) : ℝ) : EReal) = _
  rw [show R.val % 128 = (lowRow R).val from rfl, this]
  simp [dist]

theorem slt_at (n : Fin 64) : IntOp.cmpi CmpIPredicate.sgt (BitVec.ofNat 32 n.val) 0#32 = if 0 < n.val then 1#1 else 0#1 := by
  revert n
  decide +kernel

theorem pay5_at (i : grid0.Coords) (R : Fin 256) (j : Fin 128) : k0_pay5 i (ix2 R j) = if j ≤ lowRow R ∨ 0 < (i 2).val then 1#1 else 0#1 := by
  pointwise [k0_pay5]
  rw [pay3_at, show IntOp.cmpi CmpIPredicate.sgt (BitVec.ofNat 32 (i 2).val) 0#32 = if 0 < (i 2).val then 1#1 else 0#1 from slt_at (i 2)]
  by_cases h : j ≤ lowRow R <;> by_cases h' : 0 < (i 2).val <;> simp [h, h'] <;> rfl

theorem colV_at (a b : Elt Ideal .f32) (R : Fin 256) (z : Fin 1) : colV a b (ix2 R z) = if R.val < 128 then a else b := by
  pointwise [colV, k0_pay6]
  have key : ∀ R : Fin 256, IntOp.cmpi CmpIPredicate.slt (BitVec.ofNat 32 R.val) 128#32 = if R.val < 128 then 1#1 else 0#1 := by decide +kernel
  rw [key]
  by_cases h : R.val < 128 <;> simp only [h, if_true, if_false] <;> rfl

theorem lo_at (z : Fin 128) : IntOp.cmpi CmpIPredicate.slt (BitVec.ofNat 32 z.val) 64#32 = if z.val < 64 then 1#1 else 0#1 := by
  have key : ∀ z : Fin 128, IntOp.cmpi CmpIPredicate.slt (BitVec.ofNat 32 z.val) 64#32 = if z.val < 64 then 1#1 else 0#1 := by decide +kernel
  exact key z

theorem pay7_at (r z : Fin 128) : k0_pay7 (ix2 r z) = if z.val < 64 then 1#1 else 0#1 := by
  pointwise [k0_pay7]
  exact lo_at z

theorem pairV_at (q : Vec Ideal S1x128x128 .bf16) (R : Fin 256) (z : Fin 128) :
    pairV q (ix2 R z) = if z.val / 64 = R.val / 128 then q (ix3 0 (lowRow R) z) else (0 : EReal) := by
  pointwise [pairV, flatV, k0_pay7]
  rw [lo_at]
  by_cases h : R.val < 128
  · rw [dif_pos h, show (⟨R.val, h⟩ : Fin 128) = lowRow R from Fin.ext (by simp [lowRow]; omega)]
    by_cases hz : z.val < 64
    · rw [if_pos hz, if_pos (by omega)]; rfl
    · rw [if_neg hz, if_neg (by omega)]; rfl
  · rw [dif_neg h, show (⟨R.val - 128, by omega⟩ : Fin 128) = lowRow R from Fin.ext (by simp [lowRow]; omega)]
    by_cases hz : z.val < 64
    · rw [if_pos hz, if_neg (by omega)]; rfl
    · rw [if_neg hz, if_pos (by omega)]; rfl

/-- The sum over all the lanes is the sum over the half's own. -/
theorem pair_sum (q : Vec Ideal S1x128x128 .bf16) (R : Fin 256) (f : Fin 128 → EReal) :
    (∑ z, pairV q (ix2 R z) * f z) = ∑ d : Fin 64, q (ix3 0 (lowRow R) (lane R d)) * f (lane R d) := by
  rw [show (∑ z : Fin 128, pairV q (ix2 R z) * f z) = ∑ z : Fin (64 + 64), pairV q (ix2 R z) * f z from rfl, Fin.sum_univ_add]
  by_cases h : R.val < 128
  · have h2 : (∑ i : Fin 64, pairV q (ix2 R (Fin.natAdd 64 i)) * f (Fin.natAdd 64 i)) = 0 :=
      Finset.sum_eq_zero fun d _ => by
        rw [pairV_at, if_neg (by simp [Fin.natAdd]; omega)]; exact zero_mul _
    rw [h2, add_zero]
    refine Finset.sum_congr rfl fun d _ => ?_
    rw [pairV_at, if_pos (by simp [Fin.castAdd]; omega)]
    rw [show (Fin.castAdd 64 d : Fin 128) = lane R d from Fin.ext (by simp [lane]; omega)]
  · have h2 : (∑ i : Fin 64, pairV q (ix2 R (Fin.castAdd 64 i)) * f (Fin.castAdd 64 i)) = 0 :=
      Finset.sum_eq_zero fun d _ => by
        rw [pairV_at, if_neg (by simp [Fin.castAdd]; omega)]; exact zero_mul _
    rw [h2, zero_add]
    refine Finset.sum_congr rfl fun d _ => ?_
    rw [pairV_at, if_pos (by simp [Fin.natAdd]; omega)]
    rw [show (Fin.natAdd 64 d : Fin 128) = lane R d from Fin.ext (by simp [lane]; omega)]

/-- The score of key `j` at row `R`: the window's keys only. -/
def scoreC (n : ℕ) (s : EReal) (q ko kp : Vec Ideal S1x128x128 .bf16) (R : Fin 256) (j : Fin 128) : EReal :=
  if j ≤ lowRow R then (∑ d : Fin 64, q (ix3 0 (lowRow R) (lane R d)) * ko (ix3 0 j (lane R d))) - s * (((lowRow R).val - j.val : ℕ) : ℝ)
  else if 0 < n then (∑ d : Fin 64, q (ix3 0 (lowRow R) (lane R d)) * kp (ix3 0 j (lane R d))) - s * ((128 + (lowRow R).val - j.val : ℕ) : ℝ)
  else ⊥

theorem negInf : Ideal.ofBits .f32 0xFF800000#32 = ⊥ := by simp [Ideal.ofBits, Ideal.ieee]

theorem mask_bot : Named.named (F := Ideal) κ "mask" (φ := .f32) 0xF149F2CA#32 = (⊥ : EReal) := rfl

theorem scoreV_at (i : grid0.Coords) (s0 s1 : BitVec 32) (q ko kp : Vec Ideal S1x128x128 .bf16) (R : Fin 256) (j : Fin 128) :
    scoreV i s0 s1 q ko kp (ix2 R j)
      = scoreC (i 2).val (if R.val < 128 then Ideal.ofBits .f32 s0 else Ideal.ofBits .f32 s1) q ko kp R j := by
  pointwise [scoreV, flatV]
  rw [pay5_at, pay3_at, pay4_at, colV_at, pair_sum q R (fun z => ko (ix3 0 j z)), pair_sum q R (fun z => kp (ix3 0 j z)), scoreC, dist]
  by_cases h : j ≤ lowRow R
  · simp only [h, true_or, if_true]; rfl
  · by_cases h' : 0 < (i 2).val
    · simp only [h, h', or_true, if_true, if_false]; rfl
    · simp only [h, h', or_false, if_false]; exact mask_bot

theorem maxV_at (S : FVec Ideal S256x128 .f32) (k : FVec Ideal S256x1 .f32) (R : Fin 256) (z : Fin 1) :
    maxV S k (ix2 R z) = max (Finset.univ.fold max (Ideal.ofBits FTy.f32 0xFF800000#32) fun x => S (ix2 R x)) (k (ix2 R z)) := by
  pointwise [maxV]

theorem expV_at (S : FVec Ideal S256x128 .f32) (M : FVec Ideal S256x1 .f32) (R : Fin 256) (j : Fin 128) :
    expV S M (ix2 R j) = Ideal.exp (S (ix2 R j) - M (ix2 R 0)) := by
  pointwise [expV]

theorem quotV_at (E : FVec Ideal S256x128 .f32) (M k : FVec Ideal S256x1 .f32) (vo vp : Vec Ideal S1x128x128 .bf16) (R : Fin 256) (z : Fin 128) :
    quotV E M k vo vp (ix2 R z)
      = Ideal.div ((∑ x, (if x ≤ lowRow R then E (ix2 R x) else 0) * vo (ix3 0 x z)) + ∑ x, (if x ≤ lowRow R then 0 else E (ix2 R x)) * vp (ix3 0 x z))
          ((∑ x, E (ix2 R x)) + Ideal.exp (k (ix2 R 0) - M (ix2 R 0))) := by
  pointwise [quotV, flatV]
  congr 2
  · refine Finset.sum_congr rfl fun x _ => ?_
    rw [pay3_at]
    by_cases h : x ≤ lowRow R
    · simp only [h, if_true]; rfl
    · simp only [h, if_false]; exact (zero_mul _).symm
  · refine Finset.sum_congr rfl fun x _ => ?_
    rw [pay3_at]
    by_cases h : x ≤ lowRow R
    · simp only [h, if_true]; exact (zero_mul _).symm
    · simp only [h, if_false]; rfl

/-- The row of the scores an element of the block comes from. -/
def rowOf (r l : Fin 128) : Fin 256 := ⟨128 * (l.val / 64) + r.val, by omega⟩

theorem joinV_at (Q : FVec Ideal S256x128 .f32) (r l : Fin 128) : joinV Q (ix3 0 r l) = Q (ix2 (rowOf r l) l) := by
  pointwise [joinV]
  rw [pay7_at]
  by_cases h : l.val < 64
  · simp only [h, if_true]
    exact congrArg (fun x => Q (ix2 x l)) (Fin.ext (by simp [rowOf]; omega))
  · simp only [h, if_false]
    exact congrArg (fun x => Q (ix2 x l)) (Fin.ext (by simp [rowOf]; omega))

/-- One element of a pair's block: the values weighted by the exponentials of the scores over their total. -/
def pairC (n : ℕ) (s : EReal) (q ko kp vo vp : Vec Ideal S1x128x128 .bf16) (k : EReal) (R : Fin 256) (l : Fin 128) : EReal :=
  ∑ j : Fin 128, ((Cert.Softmax.ex (scoreC n s q ko kp R j) / Cert.Softmax.tot (scoreC n s q ko kp R) k : ℝ) : EReal)
    * (if j ≤ lowRow R then vo (ix3 0 j l) else vp (ix3 0 j l))

theorem scoreC_own (n : ℕ) (s : EReal) (q ko kp : Vec Ideal S1x128x128 .bf16) (R : Fin 256) (hs : Fin' s)
    (hq : ∀ x, Fin' (q x)) (ho : ∀ x, Fin' (ko x)) (j : Fin 128) (hj : j ≤ lowRow R) : Fin' (scoreC n s q ko kp R j) := by
  rw [scoreC, if_pos hj]
  exact fin_sub (fin_sum _ _ fun d => fin_mul (hq _) (ho _)) (fin_mul hs (fin_nat _))

theorem scoreC_ne_top (n : ℕ) (s : EReal) (q ko kp : Vec Ideal S1x128x128 .bf16) (R : Fin 256) (hs : Fin' s)
    (hq : ∀ x, Fin' (q x)) (ho : ∀ x, Fin' (ko x)) (hp : ∀ x, Fin' (kp x)) (j : Fin 128) : scoreC n s q ko kp R j ≠ ⊤ := by
  by_cases hj : j ≤ lowRow R
  · exact (scoreC_own n s q ko kp R hs hq ho j hj).1
  · rw [scoreC, if_neg hj]
    split_ifs
    · exact (fin_sub (fin_sum _ _ fun d => fin_mul (hq _) (hp _)) (fin_mul hs (fin_nat _))).1
    · simp

theorem scoreC_some (n : ℕ) (s : EReal) (q ko kp : Vec Ideal S1x128x128 .bf16) (R : Fin 256) (hs : Fin' s)
    (hq : ∀ x, Fin' (q x)) (ho : ∀ x, Fin' (ko x)) : ∃ j, scoreC n s q ko kp R j ≠ ⊥ :=
  ⟨lowRow R, (scoreC_own n s q ko kp R hs hq ho _ le_rfl).2⟩

theorem pairOut_at (i : grid0.Coords) (s0 s1 : BitVec 32) (q ko kp vo vp : Vec Ideal S1x128x128 .bf16) (u w : Elt Ideal .f32) (r l : Fin 128)
    (h0 : Fin' (Ideal.ofBits .f32 s0)) (h1 : Fin' (Ideal.ofBits .f32 s1)) (hq : ∀ x, Fin' (q x)) (ho : ∀ x, Fin' (ko x)) (hp : ∀ x, Fin' (kp x))
    (hu : u ≠ (⊤ : EReal)) (hw : w ≠ (⊤ : EReal)) :
    pairOut i s0 s1 q ko kp vo vp u w (ix3 0 r l)
      = pairC (i 2).val (if l.val < 64 then Ideal.ofBits .f32 s0 else Ideal.ofBits .f32 s1) q ko kp vo vp (if l.val < 64 then u else w) (rowOf r l) l := by
  have hR : (rowOf r l).val < 128 ↔ l.val < 64 := by simp [rowOf]; omega
  have hs : Fin' (if l.val < 64 then Ideal.ofBits .f32 s0 else Ideal.ofBits .f32 s1) := by split_ifs <;> assumption
  have hk : (if l.val < 64 then u else w) ≠ (⊤ : EReal) := by split_ifs <;> assumption
  have ht := scoreC_ne_top (i 2).val _ q ko kp (rowOf r l) hs hq ho hp
  have hb := scoreC_some (i 2).val _ q ko kp (rowOf r l) hs hq ho
  obtain ⟨μ, hμ⟩ : ∃ μ : ℝ, maxV (scoreV i s0 s1 q ko kp) (colV u w) (ix2 (rowOf r l) 0) = μ := by
    rw [maxV_at, colV_at]
    simp only [scoreV_at, hR]
    refine Cert.Softmax.real_of ?_ ?_
    · refine ne_of_lt (max_lt (lt_top_iff_ne_top.mpr (Cert.Softmax.fold_ne_top _ _ _ ?_ ht)) (lt_top_iff_ne_top.mpr hk))
      rw [negInf]; exact bot_ne_top
    · obtain ⟨j, hj⟩ := hb
      exact fun h => Cert.Softmax.fold_ne_bot Finset.univ _ _ j (Finset.mem_univ j) hj (le_bot_iff.mp (h ▸ le_max_left _ _))
  rw [pairOut, joinV_at, quotV_at]
  simp only [expV_at, hμ, scoreV_at, colV_at, hR]
  exact Cert.Softmax.quotient (fun j => j ≤ lowRow (rowOf r l)) _ _ _ _ ht hk hb μ

end Cert.KernelIdeal.Mine
end
-- ==== Proof.BandTop.lean ====
/- The banded attention of the prompt: what the grid stores, as the scores and values of the projections' array. -/
module

public import proofs.«01_k».proof.Proof.Band

@[expose] public section

set_option maxRecDepth 16384

noncomputable section

open Idealize.ShloMosaic Idealize.ShloMosaic.TcCoe Idealize.SL.Sem
open Idealize.ShloMosaic.Pipeline (Dat)

namespace Cert.KernelIdeal.Mine

open Cert.KernelIdeal Cert.KernelIdeal.Gen Cert.Band

/-- A pair's block is the attention's result on its rows and lanes. -/
theorem piece (x : (⟨3, ![1, 17408, 1536]⟩ : Shape).Idx → EReal) (k : (⟨1, ![16]⟩ : Shape).Idx → EReal) (hf : Fine x k) (i : grid0.Coords) (nb p : ℕ)
    (hnb : nb < 128) (hp' : p < 128) (hn : (i 2).val = nb % 64) (hp : 0 < nb % 64 → p = nb - 1) (J : ℕ) (hJ : J < 8) (s0 s1 : BitVec 32)
    (hs0 : Ideal.ofBits .f32 s0 = slope J 0) (hs1 : Ideal.ofBits .f32 s1 = slope J 1)
    (q ko kp vo vp : Vec Ideal S1x128x128 .bf16) (u w : Elt Ideal .f32)
    (hq : ∀ (r l : Fin 128), q (ix3 0 r l) = rd x (nb * 128 + r.val) (128 * J + l.val))
    (hko : ∀ (r l : Fin 128), ko (ix3 0 r l) = rd x (nb * 128 + r.val) (1024 + 128 * (J / 4) + l.val))
    (hkp : ∀ (r l : Fin 128), kp (ix3 0 r l) = rd x (p * 128 + r.val) (1024 + 128 * (J / 4) + l.val))
    (hvo : ∀ (r l : Fin 128), vo (ix3 0 r l) = rd x (nb * 128 + r.val) (1280 + 128 * (J / 4) + l.val))
    (hvp : ∀ (r l : Fin 128), vp (ix3 0 r l) = rd x (p * 128 + r.val) (1280 + 128 * (J / 4) + l.val))
    (hu : u = rs k (2 * J)) (hw : w = rs k (2 * J + 1)) (r l : Fin 128) :
    pairOut i s0 s1 q ko kp vo vp u w (ix3 0 r l) = result x k (nb * 128 + r.val) J (l.val / 64) (l.val % 64) := by
  have fq : ∀ y, Fin' (q y) := fun y => by
    idx_vars y
    obtain rfl : y0 = 0 := Subsingleton.elim _ _
    rw [hq]; exact hf.qk _ _ (by omega) (by omega)
  have fo : ∀ y, Fin' (ko y) := fun y => by
    idx_vars y
    obtain rfl : y0 = 0 := Subsingleton.elim _ _
    rw [hko]; exact hf.qk _ _ (by omega) (by omega)
  have fp : ∀ y, Fin' (kp y) := fun y => by
    idx_vars y
    obtain rfl : y0 = 0 := Subsingleton.elim _ _
    rw [hkp]; exact hf.qk _ _ (by omega) (by omega)
  rw [pairOut_at i s0 s1 q ko kp vo vp u w r l (hs0 ▸ slope_fin J 0 hJ (by omega)) (hs1 ▸ slope_fin J 1 hJ (by omega)) fq fo fp
    (hu ▸ hf.sink _) (hw ▸ hf.sink _)]
  have hlow : (lowRow (rowOf r l)).val = r.val := by simp only [lowRow, rowOf]; omega
  have hlow' : lowRow (rowOf r l) = r := Fin.ext hlow
  have hlane : ∀ d : Fin 64, (lane (rowOf r l) d).val = 64 * (l.val / 64) + d.val := fun d => by simp only [lane, rowOf]; omega
  have hR : (nb * 128 + r.val) % 128 = r.val := by omega
  have hR' : (nb * 128 + r.val) / 128 = nb := by omega
  have hsl : (if l.val < 64 then Ideal.ofBits .f32 s0 else Ideal.ofBits .f32 s1) = slope J (l.val / 64) := by
    by_cases h : l.val < 64
    · rw [if_pos h, hs0, show l.val / 64 = 0 by omega]
    · rw [if_neg h, hs1, show l.val / 64 = 1 by omega]
  have hk : (if l.val < 64 then u else w) = rs k (2 * J + l.val / 64) := by
    by_cases h : l.val < 64
    · rw [if_pos h, hu, show l.val / 64 = 0 by omega]; rfl
    · rw [if_neg h, hw, show l.val / 64 = 1 by omega]
  have hS : scoreC (i 2).val (slope J (l.val / 64)) q ko kp (rowOf r l) = score x (nb * 128 + r.val) J (l.val / 64) := by
    funext j
    rw [scoreC, score, hlow', hR, hR', hn]
    by_cases h : j.val ≤ r.val
    · rw [if_pos (show j ≤ r from h), if_pos h]
      refine congrArg₂ (fun a b : EReal => a - b) (Finset.sum_congr rfl fun d _ => ?_) rfl
      rw [hq, hko, hlane]
      simp only [Nat.add_assoc]
    · rw [if_neg (show ¬ j ≤ r from h), if_neg h]
      by_cases h0 : 0 < nb % 64
      · rw [if_pos h0, if_pos h0]
        refine congrArg₂ (fun a b : EReal => a - b) (Finset.sum_congr rfl fun d _ => ?_) rfl
        rw [hq, hkp, hlane, hp h0]
        simp only [Nat.add_assoc]
      · rw [if_neg h0, if_neg h0]
  rw [pairC, hsl, hk, hS, result]
  refine Finset.sum_congr rfl fun j _ => ?_
  rw [hlow', hR, hR']
  have hl : 64 * (l.val / 64) + l.val % 64 = l.val := by omega
  by_cases h : j.val ≤ r.val
  · rw [if_pos (show j ≤ r from h), if_pos h, hvo, Nat.add_assoc _ (64 * (l.val / 64)), hl]
  · rw [if_neg (show ¬ j ≤ r from h), if_neg h]
    by_cases h0 : 0 < nb % 64
    · rw [if_pos h0, hvp, hp h0, Nat.add_assoc _ (64 * (l.val / 64)), hl]
    · have hb : score x (nb * 128 + r.val) J (l.val / 64) j = ⊥ := by rw [score, hR, hR', if_neg h, if_neg h0]
      rw [hb]
      simp [Cert.Softmax.ex]

theorem ldQ (x0 : Vec Ideal S1x128x1024 .bf16) (o : ℕ) (inb) (r l : Fin 128) (C : Fin 1024) (h : (C : ℕ) = o + l) :
    View.ld (Val := Elt Ideal) (S := S1x128x1024) (e' := .bf16) x0 (Rect.unit ![0, 0, o] ![1, 128, 128] inb) (ix3 (0 : Fin 1) r l) = x0 (ix3 0 r C) := by
  refine congrArg x0 ?_
  funext a
  match a with
  | ⟨0, _⟩ => exact Fin.ext (by simp [LoadRect.idx])
  | ⟨1, _⟩ => exact Fin.ext (by simp [LoadRect.idx])
  | ⟨2, _⟩ => exact Fin.ext (by simp [LoadRect.idx, h])

theorem ldK (x0 : Vec Ideal S1x128x256 .bf16) (o : ℕ) (inb) (r l : Fin 128) (C : Fin 256) (h : (C : ℕ) = o + l) :
    View.ld (Val := Elt Ideal) (S := S1x128x256) (e' := .bf16) x0 (Rect.unit ![0, 0, o] ![1, 128, 128] inb) (ix3 (0 : Fin 1) r l) = x0 (ix3 0 r C) := by
  refine congrArg x0 ?_
  funext a
  match a with
  | ⟨0, _⟩ => exact Fin.ext (by simp [LoadRect.idx])
  | ⟨1, _⟩ => exact Fin.ext (by simp [LoadRect.idx])
  | ⟨2, _⟩ => exact Fin.ext (by simp [LoadRect.idx, h])

theorem ldS (x0 : Vec Ideal S16 .f32) (n : Fin 16) (inb) (y) :
    View.ld (Val := Elt Ideal) (S := S16) (e' := .f32) x0 (Rect.unit ![n.val] ![1] inb) y = x0 (ix1 n) := by
  refine congrArg x0 ?_
  funext a
  match a with
  | ⟨0, _⟩ => exact Fin.ext (by have := (y 0).isLt; simp [LoadRect.idx] at this ⊢)

/-- The blocks a grid point reads, as the projections' array and the sinks. -/
structure Reads (x : (⟨3, ![1, 17408, 1536]⟩ : Shape).Idx → EReal) (k : (⟨1, ![16]⟩ : Shape).Idx → EReal) (nb p : ℕ)
    (x0 : Vec Ideal S1x128x1024 .bf16) (x1 x2 x3 x4 : Vec Ideal S1x128x256 .bf16) (x5 : Vec Ideal S16 .f32) : Prop where
  q : ∀ (r : Fin 128) (C : Fin 1024), x0 (ix3 0 r C) = rd x (nb * 128 + r.val) C.val
  kp : ∀ (r : Fin 128) (C : Fin 256), x1 (ix3 0 r C) = rd x (p * 128 + r.val) (1024 + C.val)
  ko : ∀ (r : Fin 128) (C : Fin 256), x2 (ix3 0 r C) = rd x (nb * 128 + r.val) (1024 + C.val)
  vp : ∀ (r : Fin 128) (C : Fin 256), x3 (ix3 0 r C) = rd x (p * 128 + r.val) (1280 + C.val)
  vo : ∀ (r : Fin 128) (C : Fin 256), x4 (ix3 0 r C) = rd x (nb * 128 + r.val) (1280 + C.val)
  s : ∀ n : Fin 16, x5 (ix1 n) = rs k n.val

theorem runA (x : (⟨3, ![1, 17408, 1536]⟩ : Shape).Idx → EReal) (k : (⟨1, ![16]⟩ : Shape).Idx → EReal) (hf : Fine x k) (nb p : ℕ)
    (hnb : nb < 128) (hp' : p < 128) (hp : 0 < nb % 64 → p = nb - 1) (c : Dev nD) (i : grid0.Coords) (arg3 : Memref sig .tc .vmem S1x128x1024 .bf16) (harg3 : arg3.IsWhole) (arg4 : Memref sig .tc .vmem S1x128x256 .bf16) (harg4 : arg4.IsWhole) (arg5 : Memref sig .tc .vmem S1x128x256 .bf16) (harg5 : arg5.IsWhole) (arg6 : Memref sig .tc .vmem S1x128x256 .bf16) (harg6 : arg6.IsWhole) (arg7 : Memref sig .tc .vmem S1x128x256 .bf16) (harg7 : arg7.IsWhole) (arg8 : Memref sig .tc .smem S16 .f32) (harg8 : arg8.IsWhole) (arg9 : Memref sig .tc .vmem S1x128x1024 .bf16) (harg9 : arg9.IsWhole)
    (x0 : Vec Ideal S1x128x1024 .bf16) (x1 : Vec Ideal S1x128x256 .bf16) (x2 : Vec Ideal S1x128x256 .bf16) (x3 : Vec Ideal S1x128x256 .bf16) (x4 : Vec Ideal S1x128x256 .bf16) (x5 : Vec Ideal S16 .f32)
    (hn : (i 2).val = nb % 64) (hx : Reads x k nb p x0 x1 x2 x3 x4 x5) (r : Fin 128) (o : Fin 1024) :
    out0_A_6 (F := Ideal) c i arg3 harg3 arg4 harg4 arg5 harg5 arg6 harg6 arg7 harg7 arg8 harg8 arg9 harg9 x0 x1 x2 x3 x4 x5 (ix3 0 r o)
      = result x k (nb * 128 + r.val) (o.val / 128) (o.val / 64 % 2) (o.val % 64) := by
  frame_out
  rw [same0, same1, same2, same3, same4, same5, same6, same7]
  canon_tiles y h
  all_goals idx_vars y
  all_goals obtain rfl : r = y1 := Fin.ext (by omega)
  all_goals obtain rfl : y0 = (0 : Fin 1) := Subsingleton.elim _ _
  · have e : o.val = 896 + y2.val := by omega
    rw [show o.val / 128 = 7 by omega, show o.val / 64 % 2 = y2.val / 64 by omega, show o.val % 64 = y2.val % 64 by omega]
    exact piece x k hf i nb p hnb hp' hn hp 7 (by omega) _ _ rfl rfl _ _ _ _ _ _ _
      (fun a b => (ldQ x0 _ _ a b ⟨896 + b.val, by omega⟩ rfl).trans (hx.q _ _))
      (fun a b => (ldK x2 _ _ a b ⟨128 + b.val, by omega⟩ rfl).trans ((hx.ko _ _).trans (congrArg (rd x _) (by show _ + (128 + _) = _; omega))))
      (fun a b => (ldK x1 _ _ a b ⟨128 + b.val, by omega⟩ rfl).trans ((hx.kp _ _).trans (congrArg (rd x _) (by show _ + (128 + _) = _; omega))))
      (fun a b => (ldK x4 _ _ a b ⟨128 + b.val, by omega⟩ rfl).trans ((hx.vo _ _).trans (congrArg (rd x _) (by show _ + (128 + _) = _; omega))))
      (fun a b => (ldK x3 _ _ a b ⟨128 + b.val, by omega⟩ rfl).trans ((hx.vp _ _).trans (congrArg (rd x _) (by show _ + (128 + _) = _; omega))))
      ((ldS x5 14 _ _).trans (hx.s _)) ((ldS x5 15 _ _).trans (hx.s _)) r y2
  · have e : o.val = 768 + y2.val := by omega
    rw [show o.val / 128 = 6 by omega, show o.val / 64 % 2 = y2.val / 64 by omega, show o.val % 64 = y2.val % 64 by omega]
    exact piece x k hf i nb p hnb hp' hn hp 6 (by omega) _ _ rfl rfl _ _ _ _ _ _ _
      (fun a b => (ldQ x0 _ _ a b ⟨768 + b.val, by omega⟩ rfl).trans (hx.q _ _))
      (fun a b => (ldK x2 _ _ a b ⟨128 + b.val, by omega⟩ rfl).trans ((hx.ko _ _).trans (congrArg (rd x _) (by show _ + (128 + _) = _; omega))))
      (fun a b => (ldK x1 _ _ a b ⟨128 + b.val, by omega⟩ rfl).trans ((hx.kp _ _).trans (congrArg (rd x _) (by show _ + (128 + _) = _; omega))))
      (fun a b => (ldK x4 _ _ a b ⟨128 + b.val, by omega⟩ rfl).trans ((hx.vo _ _).trans (congrArg (rd x _) (by show _ + (128 + _) = _; omega))))
      (fun a b => (ldK x3 _ _ a b ⟨128 + b.val, by omega⟩ rfl).trans ((hx.vp _ _).trans (congrArg (rd x _) (by show _ + (128 + _) = _; omega))))
      ((ldS x5 12 _ _).trans (hx.s _)) ((ldS x5 13 _ _).trans (hx.s _)) r y2
  · have e : o.val = 640 + y2.val := by omega
    rw [show o.val / 128 = 5 by omega, show o.val / 64 % 2 = y2.val / 64 by omega, show o.val % 64 = y2.val % 64 by omega]
    exact piece x k hf i nb p hnb hp' hn hp 5 (by omega) _ _ rfl rfl _ _ _ _ _ _ _
      (fun a b => (ldQ x0 _ _ a b ⟨640 + b.val, by omega⟩ rfl).trans (hx.q _ _))
      (fun a b => (ldK x2 _ _ a b ⟨128 + b.val, by omega⟩ rfl).trans ((hx.ko _ _).trans (congrArg (rd x _) (by show _ + (128 + _) = _; omega))))
      (fun a b => (ldK x1 _ _ a b ⟨128 + b.val, by omega⟩ rfl).trans ((hx.kp _ _).trans (congrArg (rd x _) (by show _ + (128 + _) = _; omega))))
      (fun a b => (ldK x4 _ _ a b ⟨128 + b.val, by omega⟩ rfl).trans ((hx.vo _ _).trans (congrArg (rd x _) (by show _ + (128 + _) = _; omega))))
      (fun a b => (ldK x3 _ _ a b ⟨128 + b.val, by omega⟩ rfl).trans ((hx.vp _ _).trans (congrArg (rd x _) (by show _ + (128 + _) = _; omega))))
      ((ldS x5 10 _ _).trans (hx.s _)) ((ldS x5 11 _ _).trans (hx.s _)) r y2
  · have e : o.val = 512 + y2.val := by omega
    rw [show o.val / 128 = 4 by omega, show o.val / 64 % 2 = y2.val / 64 by omega, show o.val % 64 = y2.val % 64 by omega]
    exact piece x k hf i nb p hnb hp' hn hp 4 (by omega) _ _ rfl rfl _ _ _ _ _ _ _
      (fun a b => (ldQ x0 _ _ a b ⟨512 + b.val, by omega⟩ rfl).trans (hx.q _ _))
      (fun a b => (ldK x2 _ _ a b ⟨128 + b.val, by omega⟩ rfl).trans ((hx.ko _ _).trans (congrArg (rd x _) (by show _ + (128 + _) = _; omega))))
      (fun a b => (ldK x1 _ _ a b ⟨128 + b.val, by omega⟩ rfl).trans ((hx.kp _ _).trans (congrArg (rd x _) (by show _ + (128 + _) = _; omega))))
      (fun a b => (ldK x4 _ _ a b ⟨128 + b.val, by omega⟩ rfl).trans ((hx.vo _ _).trans (congrArg (rd x _) (by show _ + (128 + _) = _; omega))))
      (fun a b => (ldK x3 _ _ a b ⟨128 + b.val, by omega⟩ rfl).trans ((hx.vp _ _).trans (congrArg (rd x _) (by show _ + (128 + _) = _; omega))))
      ((ldS x5 8 _ _).trans (hx.s _)) ((ldS x5 9 _ _).trans (hx.s _)) r y2
  · have e : o.val = 384 + y2.val := by omega
    rw [show o.val / 128 = 3 by omega, show o.val / 64 % 2 = y2.val / 64 by omega, show o.val % 64 = y2.val % 64 by omega]
    exact piece x k hf i nb p hnb hp' hn hp 3 (by omega) _ _ rfl rfl _ _ _ _ _ _ _
      (fun a b => (ldQ x0 _ _ a b ⟨384 + b.val, by omega⟩ rfl).trans (hx.q _ _))
      (fun a b => (ldK x2 _ _ a b ⟨0 + b.val, by omega⟩ rfl).trans ((hx.ko _ _).trans (congrArg (rd x _) (by show _ + (0 + _) = _; omega))))
      (fun a b => (ldK x1 _ _ a b ⟨0 + b.val, by omega⟩ rfl).trans ((hx.kp _ _).trans (congrArg (rd x _) (by show _ + (0 + _) = _; omega))))
      (fun a b => (ldK x4 _ _ a b ⟨0 + b.val, by omega⟩ rfl).trans ((hx.vo _ _).trans (congrArg (rd x _) (by show _ + (0 + _) = _; omega))))
      (fun a b => (ldK x3 _ _ a b ⟨0 + b.val, by omega⟩ rfl).trans ((hx.vp _ _).trans (congrArg (rd x _) (by show _ + (0 + _) = _; omega))))
      ((ldS x5 6 _ _).trans (hx.s _)) ((ldS x5 7 _ _).trans (hx.s _)) r y2
  · have e : o.val = 256 + y2.val := by omega
    rw [show o.val / 128 = 2 by omega, show o.val / 64 % 2 = y2.val / 64 by omega, show o.val % 64 = y2.val % 64 by omega]
    exact piece x k hf i nb p hnb hp' hn hp 2 (by omega) _ _ rfl rfl _ _ _ _ _ _ _
      (fun a b => (ldQ x0 _ _ a b ⟨256 + b.val, by omega⟩ rfl).trans (hx.q _ _))
      (fun a b => (ldK x2 _ _ a b ⟨0 + b.val, by omega⟩ rfl).trans ((hx.ko _ _).trans (congrArg (rd x _) (by show _ + (0 + _) = _; omega))))
      (fun a b => (ldK x1 _ _ a b ⟨0 + b.val, by omega⟩ rfl).trans ((hx.kp _ _).trans (congrArg (rd x _) (by show _ + (0 + _) = _; omega))))
      (fun a b => (ldK x4 _ _ a b ⟨0 + b.val, by omega⟩ rfl).trans ((hx.vo _ _).trans (congrArg (rd x _) (by show _ + (0 + _) = _; omega))))
      (fun a b => (ldK x3 _ _ a b ⟨0 + b.val, by omega⟩ rfl).trans ((hx.vp _ _).trans (congrArg (rd x _) (by show _ + (0 + _) = _; omega))))
      ((ldS x5 4 _ _).trans (hx.s _)) ((ldS x5 5 _ _).trans (hx.s _)) r y2
  · have e : o.val = 128 + y2.val := by omega
    rw [show o.val / 128 = 1 by omega, show o.val / 64 % 2 = y2.val / 64 by omega, show o.val % 64 = y2.val % 64 by omega]
    exact piece x k hf i nb p hnb hp' hn hp 1 (by omega) _ _ rfl rfl _ _ _ _ _ _ _
      (fun a b => (ldQ x0 _ _ a b ⟨128 + b.val, by omega⟩ rfl).trans (hx.q _ _))
      (fun a b => (ldK x2 _ _ a b ⟨0 + b.val, by omega⟩ rfl).trans ((hx.ko _ _).trans (congrArg (rd x _) (by show _ + (0 + _) = _; omega))))
      (fun a b => (ldK x1 _ _ a b ⟨0 + b.val, by omega⟩ rfl).trans ((hx.kp _ _).trans (congrArg (rd x _) (by show _ + (0 + _) = _; omega))))
      (fun a b => (ldK x4 _ _ a b ⟨0 + b.val, by omega⟩ rfl).trans ((hx.vo _ _).trans (congrArg (rd x _) (by show _ + (0 + _) = _; omega))))
      (fun a b => (ldK x3 _ _ a b ⟨0 + b.val, by omega⟩ rfl).trans ((hx.vp _ _).trans (congrArg (rd x _) (by show _ + (0 + _) = _; omega))))
      ((ldS x5 2 _ _).trans (hx.s _)) ((ldS x5 3 _ _).trans (hx.s _)) r y2
  · have e : o.val = 0 + y2.val := by omega
    rw [show o.val / 128 = 0 by omega, show o.val / 64 % 2 = y2.val / 64 by omega, show o.val % 64 = y2.val % 64 by omega]
    exact piece x k hf i nb p hnb hp' hn hp 0 (by omega) _ _ rfl rfl _ _ _ _ _ _ _
      (fun a b => (ldQ x0 _ _ a b ⟨0 + b.val, by omega⟩ rfl).trans (hx.q _ _))
      (fun a b => (ldK x2 _ _ a b ⟨0 + b.val, by omega⟩ rfl).trans ((hx.ko _ _).trans (congrArg (rd x _) (by show _ + (0 + _) = _; omega))))
      (fun a b => (ldK x1 _ _ a b ⟨0 + b.val, by omega⟩ rfl).trans ((hx.kp _ _).trans (congrArg (rd x _) (by show _ + (0 + _) = _; omega))))
      (fun a b => (ldK x4 _ _ a b ⟨0 + b.val, by omega⟩ rfl).trans ((hx.vo _ _).trans (congrArg (rd x _) (by show _ + (0 + _) = _; omega))))
      (fun a b => (ldK x3 _ _ a b ⟨0 + b.val, by omega⟩ rfl).trans ((hx.vp _ _).trans (congrArg (rd x _) (by show _ + (0 + _) = _; omega))))
      ((ldS x5 0 _ _).trans (hx.s _)) ((ldS x5 1 _ _).trans (hx.s _)) r y2

variable (m : (ℓ : Loc nD τ sig) → Buf (Elt Ideal) ℓ)

/-- The block before a grid point's own. -/
def before (t : ℕ) : ℕ := if t % 64 = 0 then t else t - 1

theorem idx : ∀ t : Fin cfg0.N,
    (grid0.coords t 2).val = t.val % 64 ∧ win0_0.index t = ![0, t.val, 0] ∧ win0_1.index t = ![0, before t.val, 4] ∧ win0_2.index t = ![0, t.val, 4]
      ∧ win0_3.index t = ![0, before t.val, 5] ∧ win0_4.index t = ![0, t.val, 5] ∧ win0_5.index t = ![0] ∧ win0_6.index t = ![0, t.val, 0] :=
  (by decide +kernel : ∀ t : Fin grid0.N, _)

theorem read0 (c : Dev nD) (t : Fin cfg0.N) (r : Fin 128) (C : Fin 1024) (R : Fin 17408) (hR : (R : ℕ) = t.val * 128 + r) (C' : Fin 1536) (hC : (C' : ℕ) = C) :
    X0_0 m c t (ix3 (0 : Fin 1) r C : S1x128x1024.Idx) = m ((c : Thread nD τ).loc main_arg0) (ix3 0 R C') := by
  unfold X0_0 Pipeline.Window.fill
  rw [dif_pos (moved0_0 t _)]
  blk_ext [iblk, V, idx t]

theorem read1 (c : Dev nD) (t : Fin cfg0.N) (r : Fin 128) (C : Fin 256) (R : Fin 17408) (hR : (R : ℕ) = before t.val * 128 + r) (C' : Fin 1536) (hC : (C' : ℕ) = 1024 + C) :
    iblk m c 1 t (ix3 0 r C) = m ((c : Thread nD τ).loc main_arg0) (ix3 0 R C') := by
  blk_ext [iblk, V, idx t]

theorem read2 (c : Dev nD) (t : Fin cfg0.N) (r : Fin 128) (C : Fin 256) (R : Fin 17408) (hR : (R : ℕ) = t.val * 128 + r) (C' : Fin 1536) (hC : (C' : ℕ) = 1024 + C) :
    iblk m c 2 t (ix3 0 r C) = m ((c : Thread nD τ).loc main_arg0) (ix3 0 R C') := by
  blk_ext [iblk, V, idx t]

theorem read3 (c : Dev nD) (t : Fin cfg0.N) (r : Fin 128) (C : Fin 256) (R : Fin 17408) (hR : (R : ℕ) = before t.val * 128 + r) (C' : Fin 1536) (hC : (C' : ℕ) = 1280 + C) :
    iblk m c 3 t (ix3 0 r C) = m ((c : Thread nD τ).loc main_arg0) (ix3 0 R C') := by
  blk_ext [iblk, V, idx t]

theorem read4 (c : Dev nD) (t : Fin cfg0.N) (r : Fin 128) (C : Fin 256) (R : Fin 17408) (hR : (R : ℕ) = t.val * 128 + r) (C' : Fin 1536) (hC : (C' : ℕ) = 1280 + C) :
    iblk m c 4 t (ix3 0 r C) = m ((c : Thread nD τ).loc main_arg0) (ix3 0 R C') := by
  blk_ext [iblk, V, idx t]

theorem read5 (c : Dev nD) (t : Fin cfg0.N) (n : Fin 16) :
    iblk m c 5 t (ix1 n) = m ((c : Thread nD τ).loc main_arg1) (ix1 n) := by
  blk_ext [iblk, V, idx t]

theorem before_lt (t : ℕ) (h : t < 128) : before t < 128 := by unfold before; split_ifs <;> omega

theorem reads (c : Dev nD) (t : Fin cfg0.N) :
    Reads (m ((c : Thread nD τ).loc main_arg0)) (m ((c : Thread nD τ).loc main_arg1)) t.val (before t.val)
      (X0_0 m c t) (iblk m c 1 t) (iblk m c 2 t) (iblk m c 3 t) (iblk m c 4 t) (iblk m c 5 t) := by
  have ht : t.val < 128 := lt_of_lt_of_eq t.isLt N_0
  have hb := before_lt t.val ht
  exact {
    q := fun r C => (read0 m c t r C ⟨t.val * 128 + r.val, by omega⟩ rfl ⟨C.val, by omega⟩ rfl).trans (rd_eq _ _ _)
    kp := fun r C => (read1 m c t r C ⟨before t.val * 128 + r.val, by omega⟩ rfl ⟨1024 + C.val, by omega⟩ rfl).trans (rd_eq _ _ _)
    ko := fun r C => (read2 m c t r C ⟨t.val * 128 + r.val, by omega⟩ rfl ⟨1024 + C.val, by omega⟩ rfl).trans (rd_eq _ _ _)
    vp := fun r C => (read3 m c t r C ⟨before t.val * 128 + r.val, by omega⟩ rfl ⟨1280 + C.val, by omega⟩ rfl).trans (rd_eq _ _ _)
    vo := fun r C => (read4 m c t r C ⟨t.val * 128 + r.val, by omega⟩ rfl ⟨1280 + C.val, by omega⟩ rfl).trans (rd_eq _ _ _)
    s := fun n => (read5 m c t n).trans (rs_eq _ _) }

/-- The attention's result as an array. -/
def attn (x : (⟨3, ![1, 17408, 1536]⟩ : Shape).Idx → EReal) (k : (⟨1, ![16]⟩ : Shape).Idx → EReal) : FVec Ideal S1x16384x1024 .bf16 :=
  fun y => result x k (y 1).val ((y 2).val / 128) ((y 2).val / 64 % 2) ((y 2).val % 64)

theorem final (c : Dev nD) (hf : Fine (m ((c : Thread nD τ).loc main_arg0)) (m ((c : Thread nD τ).loc main_arg1))) :
    (dats m 0 c).arrAt 6 (cfgs 0).N = attn (m ((c : Thread nD τ).loc main_arg0)) (m ((c : Thread nD τ).loc main_arg1)) := by
  refine (dats m 0 c).arrAt_eq_of_covers 6 _ (by decide +kernel) fun t _ y => ?_
  blk_simp
  rw [after0_6]
  idx_vars y
  obtain rfl : y0 = (0 : Fin 1) := Subsingleton.elim _ _
  have ht : t.val < 128 := lt_of_lt_of_eq t.isLt N_0
  have he : ((cfg0.win 6).blk t).view.emb (ix3 0 y1 y2) = ix3 (0 : Fin 1) (⟨t.val * 128 + y1, by omega⟩ : Fin 16384) y2 := by
    blk_ext [idx t]
  refine Eq.trans (runA _ _ hf t.val (before t.val) ht (before_lt _ ht) (fun h => by unfold before; rw [if_neg (by omega)]) c _ _ _ _ _ _ _ _ _ _ _ _ _ _ _
    _ _ _ _ _ _ (idx t).1 (reads m c t) y1 y2) ?_
  exact (congrArg (attn (m ((c : Thread nD τ).loc main_arg0)) (m ((c : Thread nD τ).loc main_arg1))) he).symm

end Cert.KernelIdeal.Mine
end
-- ==== Proof.Ref.lean ====
/- The banded attention's reference, element by element. -/
module

public import proofs.«01_k».proof.Proof.Gen.ReferenceIdeal.Read
public import proofs.«01_k».proof.Proof.Rows
public import Idealize.ShloMosaic.Lib.Pointwise
public import Idealize.ShloMosaic.Lib.ValueIdxRank6

@[expose] public section

set_option maxRecDepth 16384

noncomputable section

open Idealize.ShloMosaic Idealize.ShloMosaic.TcCoe Idealize.SL.Sem

namespace Cert.ReferenceIdeal.Mine

open Cert.ReferenceIdeal Cert.ReferenceIdeal.Gen Cert.ReferenceIdeal.Read Cert.Band

variable (x0 : Vec Ideal S1x17408x1536 .bf16) (x1 : Vec Ideal S16 .f32)

theorem inWindow_lo (r j : Fin 128) :
    IntOp.andi (IntOp.cmpi CmpIPredicate.sge (IntOp.subi (IntOp.addi (128#32) (BitVec.ofNat 32 r.val)) (BitVec.ofNat 32 j.val)) 0#32)
      (IntOp.cmpi CmpIPredicate.sle (IntOp.subi (IntOp.addi (128#32) (BitVec.ofNat 32 r.val)) (BitVec.ofNat 32 j.val)) 127#32) = if j ≤ r then 0#1 else 1#1 := by
  revert r j; decide +kernel

theorem inWindow_hi (r j : Fin 128) :
    IntOp.andi (IntOp.cmpi CmpIPredicate.sge (IntOp.subi (IntOp.addi (128#32) (BitVec.ofNat 32 r.val)) (BitVec.ofNat 32 (128 + j.val))) 0#32)
      (IntOp.cmpi CmpIPredicate.sle (IntOp.subi (IntOp.addi (128#32) (BitVec.ofNat 32 r.val)) (BitVec.ofNat 32 (128 + j.val))) 127#32) = if j ≤ r then 1#1 else 0#1 := by
  revert r j; decide +kernel

theorem inArray_lo (n : Fin 64) (j : Fin 128) :
    IntOp.cmpi CmpIPredicate.sge (IntOp.subi (IntOp.addi (IntOp.muli (BitVec.ofNat 32 n.val) 128#32) (BitVec.ofNat 32 j.val)) 128#32) 0#32 = if 0 < n.val then 1#1 else 0#1 := by
  revert n j; decide +kernel

theorem inArray_hi (n : Fin 64) (j : Fin 128) :
    IntOp.cmpi CmpIPredicate.sge (IntOp.subi (IntOp.addi (IntOp.muli (BitVec.ofNat 32 n.val) 128#32) (BitVec.ofNat 32 (128 + j.val))) 128#32) 0#32 = 1#1 := by
  revert n j; decide +kernel

theorem dist_lo (r j : Fin 128) :
    (IntOp.subi (IntOp.addi (128#32) (BitVec.ofNat 32 r.val)) (BitVec.ofNat 32 j.val)).toInt = ((128 + r.val - j.val : ℕ) : ℤ) := by
  revert r j; decide +kernel

theorem dist_hi (r j : Fin 128) (h : j ≤ r) :
    (IntOp.subi (IntOp.addi (128#32) (BitVec.ofNat 32 r.val)) (BitVec.ofNat 32 (128 + j.val))).toInt = ((r.val - j.val : ℕ) : ℤ) := by
  revert r j; decide +kernel

theorem v53_at (r : Fin 128) (c : Fin 256) : val_main_v53 (F := Ideal) (ix2 r c) = IntOp.subi (IntOp.addi (128#32) (BitVec.ofNat 32 r.val)) (BitVec.ofNat 32 c.val) := by
  pointwise [val_main_v53, val_main_v52, val_main_v51, val_main_v50, val_main_v49, val_main_v48, val_main_v47, val_main_v46, val_main_v45, val_main_c_16]

theorem v68_at (r : Fin 128) (c : Fin 256) : val_main_v68 (F := Ideal) (ix2 r c)
    = IntOp.andi (IntOp.cmpi CmpIPredicate.sge (val_main_v53 (F := Ideal) (ix2 r c)) 0#32) (IntOp.cmpi CmpIPredicate.sle (val_main_v53 (F := Ideal) (ix2 r c)) 127#32) := by
  pointwise [val_main_v68, val_main_v67, val_main_v66, val_main_v65, val_main_v64, val_main_c_19, val_main_c_20]

theorem v70_at (n : Fin 64) (c : Fin 256) : val_main_v70 (F := Ideal) (ix3 n 0 c)
    = IntOp.cmpi CmpIPredicate.sge (IntOp.subi (IntOp.addi (IntOp.muli (BitVec.ofNat 32 n.val) 128#32) (BitVec.ofNat 32 c.val)) 128#32) 0#32 := by
  pointwise [val_main_v70, val_main_v69, val_main_v63, val_main_v62, val_main_v61, val_main_v60, val_main_v59, val_main_v58, val_main_v57, val_main_v56, val_main_v55, val_main_v54, val_main_v48, val_main_v47, val_main_c_17, val_main_c_18, val_main_c_21]

theorem v84_at (b : Fin 2) (n : Fin 64) (h g : Fin 4) (r : Fin 128) (c : Fin 256) : val_main_v84 (F := Ideal) x0 (ix6 b n h g r c)
    = Scalar.select (IntOp.andi (val_main_v68 (F := Ideal) (ix2 r c)) (val_main_v70 (F := Ideal) (ix3 n 0 c)))
      ((val_main_v44 (F := Ideal) x0 (ix6 b n h g r c) : EReal) - val_main_v29 (F := Ideal) (ix2 h g) * (FloatOps.sitofp (F := Ideal) FTy.f32 (val_main_v53 (F := Ideal) (ix2 r c)) : EReal))
      (⊥ : EReal) := by
  pointwise [val_main_v84, val_main_call2_v0, val_main_call2_v1, val_main_call2_v2, val_main_cst_22, val_main_v83, val_main_v82, val_main_v81, val_main_v80, val_main_v79, val_main_v78, val_main_v77, val_main_v76, val_main_v75, val_main_v74, val_main_v73, val_main_v72, val_main_v71]
  rw [show (id (constant (F := Ideal) S_ .f32 0xFF800000#32) ix0 : EReal) = ⊥ from by simp [constant, Ideal.ofBits, Ideal.ieee]]

theorem v29_at (h g : Fin 4) : val_main_v29 (F := Ideal) (ix2 h g) = slope (4 * (h.val / 2) + g.val) (h.val % 2) := by
  fin_cases h <;> fin_cases g <;>
  pointwise [val_main_v29, val_main_v28, val_main_v12, val_main_v13, val_main_v14, val_main_v15, val_main_v16, val_main_v17, val_main_v18, val_main_v19, val_main_v20, val_main_v21, val_main_v22, val_main_v23, val_main_v24, val_main_v25, val_main_v26, val_main_v27, val_main_cst, val_main_cst_0, val_main_cst_1, val_main_cst_2, val_main_cst_3, val_main_cst_4, val_main_cst_5, val_main_cst_6, val_main_cst_7, val_main_cst_8, val_main_cst_9, val_main_cst_10, val_main_cst_11, val_main_cst_12, val_main_cst_13, val_main_cst_14] <;>
  rfl

theorem v30_at (b : Fin 2) (p : Fin 8192) (h : Fin 4) (d : Fin 64) :
    val_main_v30 (F := Ideal) x0 (ix4 b p h d) = rd x0 (b.val * 8192 + p.val) (1024 + (h.val * 64 + d.val)) := by
  pointwise [val_main_v30, val_main_v4, val_main_v2, val_main_v1, val_main_v0]
  exact rd_eq x0 _ _

theorem v32_at (b : Fin 2) (p : Fin 8192) (h : Fin 4) (d : Fin 64) :
    val_main_v32 (F := Ideal) x0 (ix4 b p h d) = rd x0 (b.val * 8192 + p.val) (1280 + (h.val * 64 + d.val)) := by
  pointwise [val_main_v32, val_main_v5, val_main_v2, val_main_v1, val_main_v0]
  exact rd_eq x0 _ _

theorem v34_at (b : Fin 2) (n : Fin 64) (r : Fin 128) (h g : Fin 4) (d : Fin 64) :
    val_main_v34 (F := Ideal) x0 (ix6 b n r h g d) = rd x0 (b.val * 8192 + (n.val * 128 + r.val)) (h.val / 2 * 512 + g.val * 128 + h.val % 2 * 64 + d.val) := by
  pointwise [val_main_v34, val_main_v8, val_main_v7, val_main_v6, val_main_v3, val_main_v2, val_main_v1, val_main_v0]
  exact rd_eq x0 _ _

theorem v31_at (b : Fin 2) (p : Fin 8320) (h : Fin 4) (d : Fin 64) :
    val_main_v31 (F := Ideal) x0 (ix4 b p h d) = if 128 ≤ p.val then rd x0 (b.val * 8192 + (p.val - 128)) (1024 + (h.val * 64 + d.val)) else (0 : EReal) := by
  pointwise [val_main_v31, val_main_call0_v0, val_main_c]
  by_cases hp : 128 ≤ p.val
  · rw [dif_pos ⟨hp, by omega⟩, if_pos hp, v30_at]
  · rw [dif_neg (fun h => hp h.1), if_neg hp]
    change (((BitVec.toInt 0#32 : ℤ) : ℝ) : EReal) = 0
    simp

theorem v33_at (b : Fin 2) (p : Fin 8320) (h : Fin 4) (d : Fin 64) :
    val_main_v33 (F := Ideal) x0 (ix4 b p h d) = if 128 ≤ p.val then rd x0 (b.val * 8192 + (p.val - 128)) (1280 + (h.val * 64 + d.val)) else (0 : EReal) := by
  pointwise [val_main_v33, val_main_call1_v0, val_main_c_15]
  by_cases hp : 128 ≤ p.val
  · rw [dif_pos ⟨hp, by omega⟩, if_pos hp, v32_at]
  · rw [dif_neg (fun h => hp h.1), if_neg hp]
    change (((BitVec.toInt 0#32 : ℤ) : ℝ) : EReal) = 0
    simp

theorem v39_at (b : Fin 2) (n : Fin 64) (c : Fin 256) (h : Fin 4) (d : Fin 64) :
    val_main_v39 (F := Ideal) x0 (ix5 b n c h d) = if 128 ≤ n.val * 128 + c.val then rd x0 (b.val * 8192 + (n.val * 128 + c.val - 128)) (1024 + (h.val * 64 + d.val)) else (0 : EReal) := by
  pointwise [val_main_v39, val_main_v37, val_main_v38, val_main_v35]
  by_cases hc : c.val < 128
  · rw [dif_pos hc, v31_at]
  · rw [dif_neg hc]
    refine (v31_at x0 b ⟨(1 + n.val) * 128 + (c.val - 128), by omega⟩ h d).trans ?_
    rw [if_pos (by show 128 ≤ (1 + n.val) * 128 + (c.val - 128); omega)]
    rw [if_pos (by omega), show b.val * 8192 + ((1 + n.val) * 128 + (c.val - 128) - 128) = b.val * 8192 + (n.val * 128 + c.val - 128) from by omega]

theorem v42_at (b : Fin 2) (n : Fin 64) (c : Fin 256) (h : Fin 4) (d : Fin 64) :
    val_main_v42 (F := Ideal) x0 (ix5 b n c h d) = if 128 ≤ n.val * 128 + c.val then rd x0 (b.val * 8192 + (n.val * 128 + c.val - 128)) (1280 + (h.val * 64 + d.val)) else (0 : EReal) := by
  pointwise [val_main_v42, val_main_v40, val_main_v41, val_main_v36]
  by_cases hc : c.val < 128
  · rw [dif_pos hc, v33_at]
  · rw [dif_neg hc]
    refine (v33_at x0 b ⟨(1 + n.val) * 128 + (c.val - 128), by omega⟩ h d).trans ?_
    rw [if_pos (by show 128 ≤ (1 + n.val) * 128 + (c.val - 128); omega)]
    rw [if_pos (by omega), show b.val * 8192 + ((1 + n.val) * 128 + (c.val - 128) - 128) = b.val * 8192 + (n.val * 128 + c.val - 128) from by omega]

theorem v44_at (b : Fin 2) (n : Fin 64) (h g : Fin 4) (r : Fin 128) (c : Fin 256) :
    val_main_v44 (F := Ideal) x0 (ix6 b n h g r c) = ∑ d : Fin 64, (val_main_v39 (F := Ideal) x0 (ix5 b n c h d) : EReal) * val_main_v34 (F := Ideal) x0 (ix6 b n r h g d) := by
  pointwise [val_main_v44, val_main_v43]

theorem v11_at (h g : Fin 4) : val_main_v11 (F := Ideal) x1 (ix2 h g) = rs x1 (h.val / 2 * 8 + g.val * 2 + h.val % 2) := by
  pointwise [val_main_v11, val_main_v10, val_main_v9]
  exact rs_eq x1 _

theorem v110_at (b : Fin 2) (n : Fin 64) (h g : Fin 4) (r : Fin 128) : val_main_v110 (F := Ideal) x0 x1 (ix5 b n h g r)
    = max (val_main_v96 (F := Ideal) x0 (ix5 b n h g r) : EReal) (val_main_v11 (F := Ideal) x1 (ix2 h g))
      + Ideal.log1p (Ideal.exp (-(max ((val_main_v96 (F := Ideal) x0 (ix5 b n h g r) : EReal) - val_main_v11 (F := Ideal) x1 (ix2 h g))
          (-((val_main_v96 (F := Ideal) x0 (ix5 b n h g r) : EReal) - val_main_v11 (F := Ideal) x1 (ix2 h g)))))) := by
  pointwise [val_main_v110, val_main_v109, val_main_v108, val_main_v107, val_main_v106, val_main_v105, val_main_v104, val_main_v103, val_main_v102, val_main_v101, val_main_v100, val_main_v99, val_main_v98, val_main_v97]
  rw [if_neg (fun h => h rfl)]
  rfl

/-- The greatest score or zero: a real number, whatever the scores are. -/
theorem guarded_real (y : FVec Ideal S2x64x4x4x128 .f32) (i : S2x64x4x4x128.Idx) :
    ∃ τ : ℝ, (select (cmpf .olt (Host.absf y) (broadcastInDim S2x64x4x4x128 ![] bcast_S_S2x64x4x4x128 (constant (F := Ideal) S_ .f32 0x7F800000#32))) y
      (broadcastInDim S2x64x4x4x128 ![] bcast_S_S2x64x4x4x128 (constant (F := Ideal) S_ .f32 0x00000000#32)) i : EReal) = τ := by
  have hz : (0 : ℝ) = (0 : EReal) := rfl
  have key : ∀ v : EReal, ∃ τ : ℝ, (Scalar.select (Ideal.cmp .olt (max v (-v)) (Ideal.ofBits .f32 0x7F800000#32)) v (Ideal.ofBits .f32 0x00000000#32) : EReal) = τ := by
    intro v
    rw [show Ideal.ofBits .f32 0x7F800000#32 = ⊤ from by simp [Ideal.ofBits, Ideal.ieee], show Ideal.ofBits .f32 0x00000000#32 = 0 from by simp [Ideal.ofBits, Ideal.ieee]]
    induction v using EReal.rec with
    | bot => exact ⟨0, by simp [Ideal.cmp, Scalar.select]⟩
    | coe r => by_cases h : max (r : EReal) (-(r : EReal)) < ⊤
               · exact ⟨r, by simp [Ideal.cmp, h, Scalar.select]⟩
               · exact ⟨0, by simp [Ideal.cmp, h, Scalar.select]⟩
    | top => exact ⟨0, by simp [Ideal.cmp, Scalar.select]⟩
  exact key (y i)

theorem v89_real (i : S2x64x4x4x128.Idx) : ∃ τ : ℝ, (val_main_v89 (F := Ideal) x0 i : EReal) = τ :=
  guarded_real (val_main_v85 (F := Ideal) x0) i

theorem v96_at (b : Fin 2) (n : Fin 64) (h g : Fin 4) (r : Fin 128) : val_main_v96 (F := Ideal) x0 (ix5 b n h g r)
    = Ideal.log (∑ c : Fin 256, Ideal.exp ((val_main_v84 (F := Ideal) x0 (ix6 b n h g r c) : EReal) - val_main_v89 (F := Ideal) x0 (ix5 b n h g r)))
      + (val_main_v89 (F := Ideal) x0 (ix5 b n h g r) : EReal) := by
  have h94 : val_main_v94 (F := Ideal) x0 (ix5 b n h g r)
      = ∑ c : Fin 256, Ideal.exp ((val_main_v84 (F := Ideal) x0 (ix6 b n h g r c) : EReal) - val_main_v89 (F := Ideal) x0 (ix5 b n h g r)) := by
    rw [val_main_v94_apply, val_main_cst_26_apply]
    have h0 : (FloatOps.ofBits (F := Ideal) .f32 0x00000000#32 : EReal) = 0 := by simp [Ideal.ofBits, Ideal.ieee]
    refine (congrArg₂ (· + ·) h0 (Finset.sum_congr rfl fun c _ => ?_)).trans (zero_add _)
    rw [show idx_main_v94 (ix5 b n h g r) c = ix6 b n h g r c from funext fun a => by
      match a with
      | ⟨0, _⟩ => rfl
      | ⟨1, _⟩ => rfl
      | ⟨2, _⟩ => rfl
      | ⟨3, _⟩ => rfl
      | ⟨4, _⟩ => rfl
      | ⟨5, _⟩ => rfl]
    pointwise [val_main_v93, val_main_v92, val_main_v91, val_main_v90]
  pointwise [val_main_v96, val_main_v95]
  rw [h94]

theorem v114_at (b : Fin 2) (n : Fin 64) (h g : Fin 4) (r : Fin 128) (c : Fin 256) : val_main_v114 (F := Ideal) x0 x1 (ix6 b n h g r c)
    = Ideal.exp ((val_main_v84 (F := Ideal) x0 (ix6 b n h g r c) : EReal) - val_main_v110 (F := Ideal) x0 x1 (ix5 b n h g r)) := by
  pointwise [val_main_v114, val_main_v113, val_main_v112, val_main_v111]

theorem v115_at (b : Fin 2) (n : Fin 64) (h g : Fin 4) (r : Fin 128) (d : Fin 64) : val_main_v115 (F := Ideal) x0 x1 (ix6 b n h d g r)
    = ∑ c : Fin 256, (val_main_v42 (F := Ideal) x0 (ix5 b n c h d) : EReal) * val_main_v114 (F := Ideal) x0 x1 (ix6 b n h g r c) := by
  pointwise [val_main_v115]

theorem v120_at (R : Fin 16384) (o : Fin 1024) : val_main_v120 (F := Ideal) x0 x1 (ix3 0 R o)
    = val_main_v115 (F := Ideal) x0 x1 (ix6 ⟨R.val / 8192, by omega⟩ ⟨R.val / 128 % 64, by omega⟩ ⟨o.val / 512 * 2 + o.val / 64 % 2, by omega⟩ ⟨o.val % 64, by omega⟩
        ⟨o.val / 128 % 4, by omega⟩ ⟨R.val % 128, by omega⟩) := by
  pointwise [val_main_v120, val_main_v119, val_main_v118, val_main_v117, val_main_v116]

theorem rd_congr (x : (⟨3, ![1, 17408, 1536]⟩ : Shape).Idx → EReal) {R R' C C' : ℕ} (h : R = R') (h' : C = C') : rd x R C = rd x R' C' := by rw [h, h']

/-- The masked scores over the previous block's keys. -/
theorem scores_lo (R : Fin 16384) (o : Fin 1024) (j : Fin 128) :
    val_main_v84 (F := Ideal) x0 (ix6 ⟨R.val / 8192, by omega⟩ ⟨R.val / 128 % 64, by omega⟩ ⟨o.val / 512 * 2 + o.val / 64 % 2, by omega⟩ ⟨o.val / 128 % 4, by omega⟩ ⟨R.val % 128, by omega⟩
        (Fin.castAdd 128 j : Fin 256))
      = if j.val ≤ R.val % 128 then (⊥ : EReal) else score x0 R.val (o.val / 128) (o.val / 64 % 2) j := by
  rw [v84_at, v68_at, v53_at, v70_at, v29_at, v44_at]
  have hw := inWindow_lo ⟨R.val % 128, by omega⟩ j
  have ha := inArray_lo ⟨R.val / 128 % 64, by omega⟩ j
  have hd := dist_lo ⟨R.val % 128, by omega⟩ j
  simp only [Fin.val_castAdd] at hw ha hd ⊢
  rw [hw, ha]
  by_cases h : j.val ≤ R.val % 128
  · rw [if_pos (show j ≤ ⟨R.val % 128, by omega⟩ from h), if_pos h]
    split_ifs <;> rfl
  · rw [if_neg (show ¬ j ≤ ⟨R.val % 128, by omega⟩ from h), if_neg h, score, if_neg h]
    by_cases hn : 0 < R.val / 128 % 64
    · rw [if_pos hn, if_pos hn]
      refine congrArg₂ (fun a b : EReal => a - b) (Finset.sum_congr rfl fun d _ => ?_) (congrArg₂ (fun a b : EReal => a * b) ?_ ?_)
      · rw [v39_at, v34_at, mul_comm]
        simp only [Fin.val_castAdd]
        rw [if_pos (by omega)]
        exact congrArg₂ (fun a b : EReal => a * b) (rd_congr x0 (by omega) (by omega)) (rd_congr x0 (by omega) (by omega))
      · exact congrArg₂ slope (by omega) (by omega)
      · change (((BitVec.toInt _ : ℤ) : ℝ) : EReal) = _
        rw [hd]; simp
    · rw [if_neg hn, if_neg hn]; rfl

/-- The masked scores over the block's own keys. -/
theorem scores_hi (R : Fin 16384) (o : Fin 1024) (j : Fin 128) :
    val_main_v84 (F := Ideal) x0 (ix6 ⟨R.val / 8192, by omega⟩ ⟨R.val / 128 % 64, by omega⟩ ⟨o.val / 512 * 2 + o.val / 64 % 2, by omega⟩ ⟨o.val / 128 % 4, by omega⟩ ⟨R.val % 128, by omega⟩
        (Fin.natAdd 128 j : Fin 256))
      = if j.val ≤ R.val % 128 then score x0 R.val (o.val / 128) (o.val / 64 % 2) j else (⊥ : EReal) := by
  rw [v84_at, v68_at, v53_at, v70_at, v29_at, v44_at]
  have hw := inWindow_hi ⟨R.val % 128, by omega⟩ j
  have ha := inArray_hi ⟨R.val / 128 % 64, by omega⟩ j
  have hd := dist_hi ⟨R.val % 128, by omega⟩ j
  simp only [Fin.val_natAdd] at hw ha hd ⊢
  rw [hw, ha]
  by_cases h : j.val ≤ R.val % 128
  · rw [if_pos (show j ≤ ⟨R.val % 128, by omega⟩ from h), if_pos h, score, if_pos h]
    refine congrArg₂ (fun a b : EReal => a - b) (Finset.sum_congr rfl fun d _ => ?_) (congrArg₂ (fun a b : EReal => a * b) ?_ ?_)
    · rw [v39_at, v34_at, mul_comm]
      simp only [Fin.val_natAdd]
      rw [if_pos (by omega)]
      exact congrArg₂ (fun a b : EReal => a * b) (rd_congr x0 (by omega) (by omega)) (rd_congr x0 (by omega) (by omega))
    · exact congrArg₂ slope (by omega) (by omega)
    · change (((BitVec.toInt _ : ℤ) : ℝ) : EReal) = _
      rw [hd h]; simp
  · rw [if_neg (show ¬ j ≤ ⟨R.val % 128, by omega⟩ from h), if_neg h]; rfl

/-- The reference's result, element by element. -/
theorem ref_at (hf : Fine x0 x1) (R : Fin 16384) (o : Fin 1024) :
    val_main_v120 (F := Ideal) x0 x1 (ix3 0 R o) = result x0 x1 R.val (o.val / 128) (o.val / 64 % 2) (o.val % 64) := by
  rw [v120_at, v115_at]
  obtain ⟨τ, hτ⟩ := v89_real x0 (ix5 ⟨R.val / 8192, by omega⟩ ⟨R.val / 128 % 64, by omega⟩ ⟨o.val / 512 * 2 + o.val / 64 % 2, by omega⟩ ⟨o.val / 128 % 4, by omega⟩ ⟨R.val % 128, by omega⟩)
  have h1 := v96_at x0 ⟨R.val / 8192, by omega⟩ ⟨R.val / 128 % 64, by omega⟩ ⟨o.val / 512 * 2 + o.val / 64 % 2, by omega⟩ ⟨o.val / 128 % 4, by omega⟩ ⟨R.val % 128, by omega⟩
  have h2 := v110_at x0 x1 ⟨R.val / 8192, by omega⟩ ⟨R.val / 128 % 64, by omega⟩ ⟨o.val / 512 * 2 + o.val / 64 % 2, by omega⟩ ⟨o.val / 128 % 4, by omega⟩ ⟨R.val % 128, by omega⟩
  rw [hτ] at h1
  have hk : val_main_v11 (F := Ideal) x1 (ix2 ⟨o.val / 512 * 2 + o.val / 64 % 2, by omega⟩ ⟨o.val / 128 % 4, by omega⟩) = rs x1 (2 * (o.val / 128) + o.val / 64 % 2) := by
    rw [v11_at]
    exact congrArg (rs x1) (by show (o.val / 512 * 2 + o.val / 64 % 2) / 2 * 8 + o.val / 128 % 4 * 2 + (o.val / 512 * 2 + o.val / 64 % 2) % 2 = _; omega)
  rw [hk] at h2
  have hJ : o.val / 128 < 8 := by omega
  have he : o.val / 64 % 2 < 2 := by omega
  refine (Finset.sum_congr rfl fun c _ => (mul_comm _ _).trans (congrArg (fun a : EReal => a * _) (v114_at x0 x1 _ _ _ _ _ c))).trans ?_
  refine (Cert.Softmax.byLog (fun j => j.val ≤ R.val % 128) (score x0 R.val (o.val / 128) (o.val / 64 % 2))
    (fun c => val_main_v84 (F := Ideal) x0 (ix6 ⟨R.val / 8192, by omega⟩ ⟨R.val / 128 % 64, by omega⟩ ⟨o.val / 512 * 2 + o.val / 64 % 2, by omega⟩ ⟨o.val / 128 % 4, by omega⟩ ⟨R.val % 128, by omega⟩ c))
    (fun c => val_main_v42 (F := Ideal) x0 (ix5 ⟨R.val / 8192, by omega⟩ ⟨R.val / 128 % 64, by omega⟩ c ⟨o.val / 512 * 2 + o.val / 64 % 2, by omega⟩ ⟨o.val % 64, by omega⟩))
    (rs x1 (2 * (o.val / 128) + o.val / 64 % 2))
    (score_ne_top hf _ _ _ R.isLt hJ he) (hf.sink _) (score_some hf _ _ _ R.isLt hJ he)
    (scores_lo x0 R o) (scores_hi x0 R o) τ _ _ h1 h2).trans ?_
  refine Finset.sum_congr rfl fun j _ => ?_
  by_cases h : j.val ≤ R.val % 128
  · rw [if_pos h, if_pos h, v42_at]
    simp only [Fin.val_natAdd]
    rw [if_pos (by omega)]
    exact congrArg (fun a : EReal => _ * a) (rd_congr x0 (by omega) (by omega))
  · rw [if_neg h, if_neg h, v42_at]
    simp only [Fin.val_castAdd]
    by_cases hn : 0 < R.val / 128 % 64
    · rw [if_pos hn, if_pos (by omega)]
      exact congrArg (fun a : EReal => _ * a) (rd_congr x0 (by omega) (by omega))
    · rw [if_neg hn, if_neg (by omega)]

end Cert.ReferenceIdeal.Mine
end
-- ==== Proof.Pre.lean ====
/- What the attention's precondition says of the projections' array and of the sinks. -/
module

public import proofs.«01_k».proof.Pre_finite
public import proofs.«01_k».proof.Proof.Rows
public import Idealize.ShloMosaic.Lib.Pointwise
public import Idealize.ShloMosaic.Lib.ReduceAll

@[expose] public section

set_option maxRecDepth 16384

noncomputable section

open Idealize.ShloMosaic

namespace Cert.Pre_finite.Mine

open Cert.Pre_finite Cert.Band

theorem facts : Cert.Pre_finite.Facts := ⟨by decide, by decide, by decide, by decide, by decide, by decide, by decide, by decide⟩

theorem posInf : Ideal.ofBits .f32 0x7F800000#32 = ⊤ := by simp [Ideal.ofBits, Ideal.ieee]

theorem lt_of (a b : EReal) (h : Ideal.cmp .olt a b = 1#1) : a < b := by
  by_contra hn
  simp [Ideal.cmp, hn] at h

/-- The test of the prompt's queries and keys. -/
def testQ [Cert.Pre_finite.Facts] (x : FVec Ideal S1x17408x1536 .bf16) : IVec S16384x1280 1 :=
  cmpf .olt (Host.absf (extf .f32 (shapeCast S16384x1280 (extractStridedSlice S1x16384x1280 ![0, 0, 0] x Facts.slices_S1x17408x1536_S1x16384x1280_0_0_0)
    Facts.shapeCasts_S1x16384x1280_S16384x1280) Facts.bitsLt_bf16_f32))
    (broadcastInDim S16384x1280 ![] Facts.bcast_S_S16384x1280 (constant (F := Ideal) S_ .f32 0x7F800000#32))

/-- The test of the sinks. -/
def testS [Cert.Pre_finite.Facts] (k : FVec Ideal S16 .f32) : IVec S16 1 :=
  cmpf .olt k (broadcastInDim S16 ![] Facts.bcast_S_S16 (constant (F := Ideal) S_ .f32 0x7F800000#32))

theorem testQ_at [Cert.Pre_finite.Facts] (x : FVec Ideal S1x17408x1536 .bf16) (R : Fin 16384) (C : Fin 1280) :
    testQ x (ix2 R C) = Ideal.cmp .olt (FloatOps.absf (F := Ideal) (φ := .f32) (x (ix3 0 ⟨R.val, by omega⟩ ⟨C.val, by omega⟩))) (Ideal.ofBits .f32 0x7F800000#32) := by
  pointwise [testQ]

theorem testS_at [Cert.Pre_finite.Facts] (k : FVec Ideal S16 .f32) (n : Fin 16) :
    testS k (ix1 n) = Ideal.cmp .olt (k (ix1 n)) (Ideal.ofBits .f32 0x7F800000#32) := by
  pointwise [testS]

instance : Subsingleton S_.Idx := ⟨fun a b => funext fun i => i.elim0⟩

/-- The precondition's meaning. -/
theorem fine [Cert.Pre_finite.Facts] (x : FVec Ideal S1x17408x1536 .bf16) (k : FVec Ideal S16 .f32)
    (h : Cert.Pre_finite.fn (F := Ideal) x k = fun _ => 1#1) : Fine x k := by
  have h0 := congrFun h (fun a => a.elim0)
  dsimp only [Cert.Pre_finite.fn] at h0
  obtain ⟨hq, hs⟩ := IntOp.andi_eq_one.mp h0
  refine ⟨fun R C hR hC => ?_, fun n => ?_⟩
  · have h1 : testQ x (ix2 (⟨R, hR⟩ : Fin 16384) (⟨C, hC⟩ : Fin 1280)) = 1#1 := Host.reduce_andi_all _ _ _ _ _ hq _
    rw [testQ_at, posInf] at h1
    have h2 := lt_of _ _ h1
    rw [show rd x R C = x (ix3 0 ⟨R, by omega⟩ ⟨C, by omega⟩) from (rd_eq x ⟨R, by omega⟩ ⟨C, by omega⟩).symm]
    constructor
    · intro e
      rw [e] at h2
      exact absurd h2 (by simp [FloatOps.absf])
    · intro e
      rw [e] at h2
      exact absurd h2 (by simp [FloatOps.absf])
  · by_cases hn : n < 16
    · have h1 : testS k (ix1 (⟨n, hn⟩ : Fin 16)) = 1#1 := Host.reduce_andi_all _ _ _ _ _ hs _
      rw [testS_at, posInf] at h1
      rw [show rs k n = k (ix1 ⟨n, hn⟩) from (rs_eq k ⟨n, hn⟩).symm]
      exact (lt_of _ _ h1).ne
    · rw [rs, dif_neg hn]
      exact EReal.zero_ne_top

end Cert.Pre_finite.Mine
end
-- ==== Proof.Post.lean ====
/- The merge, the normalization and the gated feed-forward network: what each grid point stores is the reference's block. -/
module

public import proofs.«01_k».proof.Proof.Gen.Kernel2Ideal.Value
public import proofs.«01_k».proof.Proof.Gen.Reference2Ideal.Read
public import Idealize.ShloMosaic.Lib.Pointwise
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.Kernel2Ideal.Mine

open Cert.Kernel2Ideal Cert.Kernel2Ideal.Gen

/-- One element of the gated product: silu of the gate column times the up column, 2816 columns to the right. -/
def act (n : FVec Ideal S512x1024 .bf16) (W : FVec Ideal S1024x5632 .bf16) (r : Fin 512) (j : Fin 2816) : EReal :=
  (∑ k : Fin 1024, n (ix2 r k) * W (ix2 k ⟨j, by omega⟩)) * Ideal.logistic (∑ k : Fin 1024, n (ix2 r k) * W (ix2 k ⟨j, by omega⟩))
    * ∑ k : Fin 1024, n (ix2 r k) * W (ix2 k ⟨2816 + j, by omega⟩)

/-- The gated product of a block. -/
def actM (n : FVec Ideal S512x1024 .bf16) (W : FVec Ideal S1024x5632 .bf16) : FVec Ideal S512x2816 .bf16 :=
  fun i => act n W (i 0) (i 1)

/-- The eleven stores of the gated product, last first. -/
def stores (n : FVec Ideal S512x1024 .bf16) (W : FVec Ideal S1024x5632 .bf16) : List (View.Piece (Elt Ideal) S512x2816 .bf16) :=
  [
   ⟨Rect.unit ![0, 2560] ![512, 256] inb_S512x2816_S512x256_0_2560,
      k0_pay2 n (View.ld (Val := Elt Ideal) (S := S1024x5632) (e' := .bf16) W (Rect.unit ![0, 2560] ![1024, 256] inb_S1024x5632_S1024x256_0_2560))
        (View.ld (Val := Elt Ideal) (S := S1024x5632) (e' := .bf16) W (Rect.unit ![0, 5376] ![1024, 256] inb_S1024x5632_S1024x256_0_5376))⟩,
   ⟨Rect.unit ![0, 2304] ![512, 256] inb_S512x2816_S512x256_0_2304,
      k0_pay1 (k0_pay20 n (View.ld (Val := Elt Ideal) (S := S1024x5632) (e' := .bf16) W (Rect.unit ![0, 2304] ![1024, 256] inb_S1024x5632_S1024x256_0_2304))
        (View.ld (Val := Elt Ideal) (S := S1024x5632) (e' := .bf16) W (Rect.unit ![0, 5120] ![1024, 256] inb_S1024x5632_S1024x256_0_5120)))⟩,
   ⟨Rect.unit ![0, 2048] ![512, 256] inb_S512x2816_S512x256_0_2048,
      k0_pay19 n (View.ld (Val := Elt Ideal) (S := S1024x5632) (e' := .bf16) W (Rect.unit ![0, 2048] ![1024, 256] inb_S1024x5632_S1024x256_0_2048))
        (View.ld (Val := Elt Ideal) (S := S1024x5632) (e' := .bf16) W (Rect.unit ![0, 4864] ![1024, 256] inb_S1024x5632_S1024x256_0_4864))⟩,
   ⟨Rect.unit ![0, 1792] ![512, 256] inb_S512x2816_S512x256_0_1792,
      k0_pay18 n (View.ld (Val := Elt Ideal) (S := S1024x5632) (e' := .bf16) W (Rect.unit ![0, 1792] ![1024, 256] inb_S1024x5632_S1024x256_0_1792))
        (View.ld (Val := Elt Ideal) (S := S1024x5632) (e' := .bf16) W (Rect.unit ![0, 4608] ![1024, 256] inb_S1024x5632_S1024x256_0_4608))⟩,
   ⟨Rect.unit ![0, 1536] ![512, 256] inb_S512x2816_S512x256_0_1536,
      k0_pay17 (k0_pay16 n (View.ld (Val := Elt Ideal) (S := S1024x5632) (e' := .bf16) W (Rect.unit ![0, 1536] ![1024, 256] inb_S1024x5632_S1024x256_0_1536))
        (View.ld (Val := Elt Ideal) (S := S1024x5632) (e' := .bf16) W (Rect.unit ![0, 4352] ![1024, 256] inb_S1024x5632_S1024x256_0_4352)))⟩,
   ⟨Rect.unit ![0, 1280] ![512, 256] inb_S512x2816_S512x256_0_1280,
      k0_pay15 n (View.ld (Val := Elt Ideal) (S := S1024x5632) (e' := .bf16) W (Rect.unit ![0, 1280] ![1024, 256] inb_S1024x5632_S1024x256_0_1280))
        (View.ld (Val := Elt Ideal) (S := S1024x5632) (e' := .bf16) W (Rect.unit ![0, 4096] ![1024, 256] inb_S1024x5632_S1024x256_0_4096))⟩,
   ⟨Rect.unit ![0, 1024] ![512, 256] inb_S512x2816_S512x256_0_1024,
      k0_pay14 n (View.ld (Val := Elt Ideal) (S := S1024x5632) (e' := .bf16) W (Rect.unit ![0, 1024] ![1024, 256] inb_S1024x5632_S1024x256_0_1024))
        (View.ld (Val := Elt Ideal) (S := S1024x5632) (e' := .bf16) W (Rect.unit ![0, 3840] ![1024, 256] inb_S1024x5632_S1024x256_0_3840))⟩,
   ⟨Rect.unit ![0, 768] ![512, 256] inb_S512x2816_S512x256_0_768,
      k0_pay13 (k0_pay12 n (View.ld (Val := Elt Ideal) (S := S1024x5632) (e' := .bf16) W (Rect.unit ![0, 768] ![1024, 256] inb_S1024x5632_S1024x256_0_768))
        (View.ld (Val := Elt Ideal) (S := S1024x5632) (e' := .bf16) W (Rect.unit ![0, 3584] ![1024, 256] inb_S1024x5632_S1024x256_0_3584)))⟩,
   ⟨Rect.unit ![0, 512] ![512, 256] inb_S512x2816_S512x256_0_512,
      k0_pay11 n (View.ld (Val := Elt Ideal) (S := S1024x5632) (e' := .bf16) W (Rect.unit ![0, 512] ![1024, 256] inb_S1024x5632_S1024x256_0_512))
        (View.ld (Val := Elt Ideal) (S := S1024x5632) (e' := .bf16) W (Rect.unit ![0, 3328] ![1024, 256] inb_S1024x5632_S1024x256_0_3328))⟩,
   ⟨Rect.unit ![0, 256] ![512, 256] inb_S512x2816_S512x256_0_256,
      k0_pay10 n (View.ld (Val := Elt Ideal) (S := S1024x5632) (e' := .bf16) W (Rect.unit ![0, 256] ![1024, 256] inb_S1024x5632_S1024x256_0_256))
        (View.ld (Val := Elt Ideal) (S := S1024x5632) (e' := .bf16) W (Rect.unit ![0, 3072] ![1024, 256] inb_S1024x5632_S1024x256_0_3072))⟩,
   ⟨Rect.unit ![0, 0] ![512, 256] inb_S512x2816_S512x256_0_0,
      k0_pay9 (k0_pay12 n (View.ld (Val := Elt Ideal) (S := S1024x5632) (e' := .bf16) W (Rect.unit ![0, 0] ![1024, 256] inb_S1024x5632_S1024x256_0_0))
        (View.ld (Val := Elt Ideal) (S := S1024x5632) (e' := .bf16) W (Rect.unit ![0, 2816] ![1024, 256] inb_S1024x5632_S1024x256_0_2816)))⟩]

theorem chunk (n : FVec Ideal S512x1024 .bf16) (W : FVec Ideal S1024x5632 .bf16) (wa wb : FVec Ideal S1024x256 .bf16)
    (r : Fin 512) (c : Fin 256) (j : Fin 2816)
    (ha : ∀ k : Fin 1024, wa (ix2 k c) = W (ix2 k ⟨j, by omega⟩))
    (hb : ∀ k : Fin 1024, wb (ix2 k c) = W (ix2 k ⟨2816 + j, by omega⟩)) :
    k0_pay2 (F := Ideal) n wa wb (ix2 r c) = act n W r j := by
  pointwise [k0_pay2, act]
  simp only [ha, hb]

theorem same9 (n : FVec Ideal S512x1024 .bf16) (a b : FVec Ideal S1024x256 .bf16) : k0_pay9 (F := Ideal) (k0_pay12 n a b) = k0_pay2 n a b := rfl
theorem same8 (x : FVec Ideal S512x1024 .f32) (a : FVec Ideal S512x1024 .bf16) (Wo : FVec Ideal S1024x1024 .bf16)
    (g : FVec Ideal S1x1024 .f32) (u v : FVec Ideal S1024x256 .bf16) :
    k0_pay8 (F := Ideal) x a Wo g u v = k0_pay12 (k0_pay7 x a Wo g) u v := rfl
theorem same10 (n : FVec Ideal S512x1024 .bf16) (a b : FVec Ideal S1024x256 .bf16) : k0_pay10 (F := Ideal) n a b = k0_pay2 n a b :=  rfl
theorem same11 (n : FVec Ideal S512x1024 .bf16) (a b : FVec Ideal S1024x256 .bf16) : k0_pay11 (F := Ideal) n a b = k0_pay2 n a b :=  rfl
theorem same14 (n : FVec Ideal S512x1024 .bf16) (a b : FVec Ideal S1024x256 .bf16) : k0_pay14 (F := Ideal) n a b = k0_pay2 n a b :=  rfl
theorem same15 (n : FVec Ideal S512x1024 .bf16) (a b : FVec Ideal S1024x256 .bf16) : k0_pay15 (F := Ideal) n a b = k0_pay2 n a b :=  rfl
theorem same18 (n : FVec Ideal S512x1024 .bf16) (a b : FVec Ideal S1024x256 .bf16) : k0_pay18 (F := Ideal) n a b = k0_pay2 n a b :=  rfl
theorem same19 (n : FVec Ideal S512x1024 .bf16) (a b : FVec Ideal S1024x256 .bf16) : k0_pay19 (F := Ideal) n a b = k0_pay2 n a b :=  rfl
theorem same13 (n : FVec Ideal S512x1024 .bf16) (a b : FVec Ideal S1024x256 .bf16) : k0_pay13 (F := Ideal) (k0_pay12 n a b) = k0_pay2 n a b :=  rfl
theorem same17 (n : FVec Ideal S512x1024 .bf16) (a b : FVec Ideal S1024x256 .bf16) : k0_pay17 (F := Ideal) (k0_pay16 n a b) = k0_pay2 n a b :=  rfl
theorem same1 (n : FVec Ideal S512x1024 .bf16) (a b : FVec Ideal S1024x256 .bf16) : k0_pay1 (F := Ideal) (k0_pay20 n a b) = k0_pay2 n a b :=  rfl

theorem ldW (W : FVec Ideal S1024x5632 .bf16) (o : ℕ) (inb) (k : Fin 1024) (c : Fin 256) (j : Fin 5632) (h : (j : ℕ) = o + c) :
    View.ld (Val := Elt Ideal) (S := S1024x5632) (e' := .bf16) W (Rect.unit ![0, o] ![1024, 256] inb) (ix2 k c) = W (ix2 k j) := by
  refine congrArg W ?_
  funext a
  match a with
  | ⟨0, _⟩ => exact Fin.ext (by simp [LoadRect.idx])
  | ⟨1, _⟩ => exact Fin.ext (by simp [LoadRect.idx, h])

theorem canon_stores (n : FVec Ideal S512x1024 .bf16) (W : FVec Ideal S1024x5632 .bf16) (r : Fin 512) (j : Fin 2816) :
    View.canon (stores n W) (ix2 r j) = act n W r j := by
  unfold stores
  simp only [same9, same10, same11, same13, same14, same15, same17, same18, same19, same1]
  canon_tiles x h
  all_goals idx_vars x
  all_goals obtain rfl : r = x0 := Fin.ext (by omega)
  all_goals
    exact chunk n W _ _ r x1 j (fun k => ldW W _ _ k x1 _ (by simp only []; omega)) (fun k => ldW W _ _ k x1 _ (by simp only []; omega))

theorem stage {sig : RefSig} {κ : Kind} {sp : Space} (v : View sig κ sp S512x2816 .bf16) (n : FVec Ideal S512x1024 .bf16) (W : FVec Ideal S1024x5632 .bf16) :
    v.readCov (stores n W) (Rect.unit ![0, 0] ![512, 2816] inb_S512x2816_S512x2816_0_0).toLoadRect
      = actM n W := by
  rw [View.readCov_eq_canon']
  funext z
  idx_vars z
  have e : (Rect.unit (s := S512x2816) ![0, 0] ![512, 2816] inb_S512x2816_S512x2816_0_0).toLoadRect.idx (ix2 z0 z1) = ix2 z0 z1 := by
    funext a
    match a with
    | ⟨0, _⟩ => exact Fin.ext (by simp [LoadRect.idx])
    | ⟨1, _⟩ => exact Fin.ext (by simp [LoadRect.idx])
  exact (congrArg (View.canon (stores n W)) e).trans (canon_stores n W z0 z1)

/-- The merged residual: the input plus the attention's output through the output projection. -/
def merged (X : FVec Ideal S17408x1024 .f32) (Wo : FVec Ideal S1024x1024 .bf16) (a : Fin 17408 → Fin 1024 → EReal)
    (r : Fin 17408) (c : Fin 1024) : EReal :=
  X (ix2 r c) + ∑ k : Fin 1024, a r k * Wo (ix2 k c)

/-- The merged residual, normed over its row. -/
def normed (x : Fin 1024 → EReal) (g : FVec Ideal S1024 .f32) (c : Fin 1024) : EReal :=
  x c * Ideal.rsqrt (Ideal.div (∑ l : Fin 1024, x l * x l) (Ideal.ofBits .f32 0x44800000#32) + Ideal.ofBits .f32 0x358637BD#32) * g (ix1 c)

/-- One row of the feed-forward network, added to the residual. -/
def ffn (x : Fin 1024 → EReal) (g : FVec Ideal S1024 .f32) (Wg : FVec Ideal S1024x5632 .bf16) (Wd : FVec Ideal S2816x1024 .bf16)
    (c : Fin 1024) : EReal :=
  x c + ∑ j : Fin 2816,
    ((∑ k : Fin 1024, normed x g k * Wg (ix2 k ⟨j, by omega⟩))
      * Ideal.div 1 (1 + Ideal.exp (-∑ k : Fin 1024, normed x g k * Wg (ix2 k ⟨j, by omega⟩)))
      * ∑ k : Fin 1024, normed x g k * Wg (ix2 k ⟨2816 + j, by omega⟩)) * Wd (ix2 j c)

/-- The two attention outputs, the prompt's rows first. -/
def joined (op : FVec Ideal S16384x1024 .bf16) (os : FVec Ideal S1024x1024 .bf16) (r : Fin 17408) (k : Fin 1024) : EReal :=
  if h : (r : ℕ) < 16384 then op (ix2 ⟨r, h⟩ k) else os (ix2 ⟨r - 16384, by omega⟩ k)

open Cert.Reference2Ideal.Read in
theorem ref26 (X : FVec Ideal S17408x1024 .f32) (Wo : FVec Ideal S1024x1024 .bf16) (g : FVec Ideal S1024 .f32)
    (Wg : FVec Ideal S1024x5632 .bf16) (Wd : FVec Ideal S2816x1024 .bf16) (op : FVec Ideal S16384x1024 .bf16)
    (os : FVec Ideal S1024x1024 .bf16) (r : Fin 17408) (c : Fin 1024) :
    val_main_v26 (F := Ideal) X Wo g Wg Wd op os (ix2 r c)
      = ffn (fun c => merged X Wo (joined op os) r c) g Wg Wd c := by
  pointwise [val_main_v0, val_main_v1, val_main_v2, val_main_v3, val_main_v4, val_main_v5, val_main_cst, val_main_v6, val_main_v7, val_main_cst_0, val_main_v8, val_main_v9, val_main_cst_1, val_main_v10, val_main_v11, val_main_v12, val_main_v13, val_main_v14, val_main_v15, val_main_v16, val_main_v17, val_main_v18, val_main_v19, val_main_v20, val_main_v21, val_main_call0_v0, val_main_call0_v1, val_main_call0_cst, val_main_call0_v2, val_main_call0_v3, val_main_call0_cst_0, val_main_call0_v4, val_main_call0_v5, val_main_v22, val_main_v23, val_main_v24, val_main_v25, val_main_v26, ffn, normed, merged, joined]

theorem block (x : FVec Ideal S512x1024 .f32) (a : FVec Ideal S512x1024 .bf16) (Wo : FVec Ideal S1024x1024 .bf16)
    (g : FVec Ideal S1x1024 .f32) (Wg : FVec Ideal S1024x5632 .bf16) (Wd : FVec Ideal S2816x1024 .bf16) (r : Fin 512) (c : Fin 1024) :
    k0_pay3 (F := Ideal) (k0_pay6 x a Wo) (actM (k0_pay7 x a Wo g) Wg) Wd (ix2 r c)
      = ffn (fun c => x (ix2 r c) + ∑ k : Fin 1024, a (ix2 r k) * Wo (ix2 k c)) (fun i => g (ix2 (0 : Fin 1) (i 0))) Wg Wd c := by
  pointwise [k0_pay3, k0_pay6, k0_pay7, actM, act, ffn, normed]
  simp only [Ideal.logistic]

theorem runA (c : Dev nD) (i : grid0.Coords) (arg1 : Memref sig .tc .vmem S512x1024 .f32) (harg1 : arg1.IsWhole) (arg2 : Memref sig .tc .vmem S512x1024 .bf16) (harg2 : arg2.IsWhole) (arg3 : Memref sig .tc .vmem S512x1024 .bf16) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S1024x5632 .bf16) (harg6 : arg6.IsWhole) (arg7 : Memref sig .tc .vmem S2816x1024 .bf16) (harg7 : arg7.IsWhole) (arg8 : Memref sig .tc .vmem S512x1024 .f32) (harg8 : arg8.IsWhole) (arg9 : Memref sig .tc .vmem S512x2816 .bf16) (harg9 : arg9.IsWhole) (arg10 : Memref sig .tc .vmem S512x1024 .bf16) (harg10 : arg10.IsWhole) (hc0 : cond0_0 i) (hc1 : ¬cond0_1 i)
    (x0 : Vec Ideal S512x1024 .f32) (x1 : Vec Ideal S512x1024 .bf16) (x2 : Vec Ideal S512x1024 .bf16) (x3 : Vec Ideal S1024x1024 .bf16) (x4 : Vec Ideal S1x1024 .f32) (x5 : Vec Ideal S1024x5632 .bf16) (x6 : Vec Ideal S2816x1024 .bf16) :
    out0_A_7 (F := Ideal) c i arg1 harg1 arg2 harg2 arg3 harg3 arg4 harg4 arg5 harg5 arg6 harg6 arg7 harg7 arg8 harg8 arg9 harg9 arg10 harg10 hc0 hc1 x0 x1 x2 x3 x4 x5 x6
      = k0_pay3 (F := Ideal) (k0_pay6 x0 (k0_pay4 x1) x3) (actM (k0_pay7 x0 (k0_pay4 x1) x3 x4) x5) x6 := by
  frame_out
  rw [same8]
  refine congrArg (fun z => k0_pay3 (F := Ideal) _ z _) ?_
  exact stage arg9.view (k0_pay7 x0 (k0_pay4 x1) x3 x4) x5

theorem runB (c : Dev nD) (i : grid0.Coords) (arg1 : Memref sig .tc .vmem S512x1024 .f32) (harg1 : arg1.IsWhole) (arg2 : Memref sig .tc .vmem S512x1024 .bf16) (harg2 : arg2.IsWhole) (arg3 : Memref sig .tc .vmem S512x1024 .bf16) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S1024x5632 .bf16) (harg6 : arg6.IsWhole) (arg7 : Memref sig .tc .vmem S2816x1024 .bf16) (harg7 : arg7.IsWhole) (arg8 : Memref sig .tc .vmem S512x1024 .f32) (harg8 : arg8.IsWhole) (arg9 : Memref sig .tc .vmem S512x2816 .bf16) (harg9 : arg9.IsWhole) (arg10 : Memref sig .tc .vmem S512x1024 .bf16) (harg10 : arg10.IsWhole) (hc0 : ¬cond0_0 i) (hc1 : cond0_1 i)
    (x0 : Vec Ideal S512x1024 .f32) (x1 : Vec Ideal S512x1024 .bf16) (x2 : Vec Ideal S512x1024 .bf16) (x3 : Vec Ideal S1024x1024 .bf16) (x4 : Vec Ideal S1x1024 .f32) (x5 : Vec Ideal S1024x5632 .bf16) (x6 : Vec Ideal S2816x1024 .bf16) :
    out0_B_7 (F := Ideal) c i arg1 harg1 arg2 harg2 arg3 harg3 arg4 harg4 arg5 harg5 arg6 harg6 arg7 harg7 arg8 harg8 arg9 harg9 arg10 harg10 hc0 hc1 x0 x1 x2 x3 x4 x5 x6
      = k0_pay3 (F := Ideal) (k0_pay6 x0 (k0_pay5 x2) x3) (actM (k0_pay7 x0 (k0_pay5 x2) x3 x4) x5) x6 := by
  frame_out
  rw [same8]
  refine congrArg (fun z => k0_pay3 (F := Ideal) _ z _) ?_
  exact stage arg9.view (k0_pay7 x0 (k0_pay5 x2) x3 x4) x5

variable (m : (ℓ : Loc nD τ sig) → Buf (Elt Ideal) ℓ)

theorem outA (c : Dev nD) (t : Fin cfg0.N) (h0 : t.val < 32) (h1 : ¬32 ≤ t.val) :
   outsAt0 m c t.val t.isLt = k0_pay3 (F := Ideal) (k0_pay6 (iblk m c 0 t) (k0_pay4 (iblk m c 1 t)) (iblk m c 3 t))
     (actM (k0_pay7 (iblk m c 0 t) (k0_pay4 (iblk m c 1 t)) (iblk m c 3 t) (iblk m c 4 t)) (iblk m c 5 t)) (iblk m c 6 t) := by
  rw [outsAt0_A m c t h0 h1, runA]

theorem outB (c : Dev nD) (t : Fin cfg0.N) (h0 : ¬t.val < 32) (h1 : 32 ≤ t.val) :
   outsAt0 m c t.val t.isLt = k0_pay3 (F := Ideal) (k0_pay6 (iblk m c 0 t) (k0_pay5 (iblk m c 2 t)) (iblk m c 3 t))
     (actM (k0_pay7 (iblk m c 0 t) (k0_pay5 (iblk m c 2 t)) (iblk m c 3 t) (iblk m c 4 t)) (iblk m c 5 t)) (iblk m c 6 t) := by
  rw [outsAt0_B m c t h0 h1, runB]

theorem idx : ∀ t : Fin cfg0.N,
    win0_0.index t = ![t.val, 0] ∧ win0_3.index t = ![0, 0] ∧ win0_4.index t = ![0, 0] ∧ win0_5.index t = ![0, 0]
      ∧ win0_6.index t = ![0, 0] ∧ win0_7.index t = ![t.val, 0] :=
  (by decide +kernel : ∀ t : Fin grid0.N, _)

theorem idxP : ∀ t : Fin cfg0.N, t.val < 32 → win0_1.index t = ![t.val, 0] :=
  (by decide +kernel : ∀ t : Fin grid0.N, _)

theorem idxS : ∀ t : Fin cfg0.N, ¬ t.val < 32 → win0_2.index t = ![t.val - 32, 0] :=
  (by decide +kernel : ∀ t : Fin grid0.N, _)

theorem read0 (c : Dev nD) (t : Fin cfg0.N) (r : Fin 512) (R : Fin 17408) (h : (R : ℕ) = 512 * t.val + r) (k : Fin 1024) :
    iblk m c 0 t (ix2 r k) = m ((c : Thread nD τ).loc main_arg0) (ix2 R k) := by
  blk_point [iblk, V, idx t]

theorem read1 (c : Dev nD) (t : Fin cfg0.N) (ht : t.val < 32) (r : Fin 512) (R : Fin 16384) (h : (R : ℕ) = 512 * t.val + r) (k : Fin 1024) :
    iblk m c 1 t (ix2 r k) = m ((c : Thread nD τ).loc main_arg5) (ix2 R k) := by
  blk_ext [iblk, V, idxP t ht]

theorem read2 (c : Dev nD) (t : Fin cfg0.N) (ht : ¬ t.val < 32) (r : Fin 512) (R : Fin 1024) (h : (R : ℕ) + 16384 = 512 * t.val + r) (k : Fin 1024) :
    iblk m c 2 t (ix2 r k) = m ((c : Thread nD τ).loc main_arg6) (ix2 R k) := by
  blk_ext [iblk, V, idxS t ht]

theorem read3 (c : Dev nD) (t : Fin cfg0.N) : iblk m c 3 t = m ((c : Thread nD τ).loc main_arg1) := by
  blk_ext! [iblk, V, idx t]

theorem read4 (c : Dev nD) (t : Fin cfg0.N) (k : Fin 1024) :
    iblk m c 4 t (ix2 (0 : Fin 1) k) = m ((c : Thread nD τ).loc main_arg2) (ix1 k) := by
  blk_point [iblk, V, idx t]

theorem read5 (c : Dev nD) (t : Fin cfg0.N) : iblk m c 5 t = m ((c : Thread nD τ).loc main_arg3) := by
  blk_ext! [iblk, V, idx t]

theorem read6 (c : Dev nD) (t : Fin cfg0.N) : iblk m c 6 t = m ((c : Thread nD τ).loc main_arg4) := by
  blk_ext! [iblk, V, idx t]

/-- A block row of the network, from the reads of the row and of the attention's row. -/
theorem row (x : FVec Ideal S512x1024 .f32) (a : FVec Ideal S512x1024 .bf16) (Wo Wo' : FVec Ideal S1024x1024 .bf16)
    (g : FVec Ideal S1x1024 .f32) (Wg Wg' : FVec Ideal S1024x5632 .bf16) (Wd Wd' : FVec Ideal S2816x1024 .bf16) (r : Fin 512) (c : Fin 1024)
    (X : FVec Ideal S17408x1024 .f32) (G : FVec Ideal S1024 .f32) (op : FVec Ideal S16384x1024 .bf16)
    (os : FVec Ideal S1024x1024 .bf16) (R : Fin 17408)
    (hx : ∀ k : Fin 1024, x (ix2 r k) = X (ix2 R k)) (ha : ∀ k : Fin 1024, a (ix2 r k) = joined op os R k)
    (hg : ∀ k : Fin 1024, g (ix2 (0 : Fin 1) k) = G (ix1 k)) (ho : Wo = Wo') (hwg : Wg = Wg') (hwd : Wd = Wd') :
    k0_pay3 (F := Ideal) (k0_pay6 x a Wo) (actM (k0_pay7 x a Wo g) Wg) Wd (ix2 r c)
      = Cert.Reference2Ideal.Read.val_main_v26 (F := Ideal) X Wo' G Wg' Wd' op os (ix2 R c) := by
  subst ho hwg hwd
  rw [block, ref26]
  have e1 : (fun c : Fin 1024 => x (ix2 r c) + ∑ k : Fin 1024, a (ix2 r k) * Wo (ix2 k c))
      = fun c => merged X Wo (joined op os) R c := by
    funext c
    simp only [merged, hx, ha]
  have e2 : (fun i => g (ix2 (0 : Fin 1) (i 0))) = G := by
    funext i
    idx_vars i
    exact hg i0
  rw [e1, e2]

theorem final (c : Dev nD) : (dats m 0 c).arrAt 7 (cfgs 0).N
    = Cert.Reference2Ideal.Read.val_main_v26 (F := Ideal) (m ((c : Thread nD τ).loc main_arg0)) (m ((c : Thread nD τ).loc main_arg1))
          (m ((c : Thread nD τ).loc main_arg2)) (m ((c : Thread nD τ).loc main_arg3)) (m ((c : Thread nD τ).loc main_arg4))
          (m ((c : Thread nD τ).loc main_arg5)) (m ((c : Thread nD τ).loc main_arg6)) := by
  refine (dats m 0 c).arrAt_eq_of_covers 7 _ (by decide +kernel) fun t _ y => ?_
  blk_simp
  rw [after0_7]
  idx_vars y
  have ht : t.val < 34 := lt_of_lt_of_eq t.isLt N_0
  have he : ((cfg0.win 7).blk t).view.emb (ix2 y0 y1) = ix2 (⟨512 * t.val + y0, by omega⟩ : Fin 17408) y1 := by
    blk_ext [idx t]
  by_cases h0 : t.val < 32
  · rw [outA m c t h0 (by omega)]
    refine Eq.trans (row _ _ _ _ _ _ _ _ _ y0 y1 _ _ (m ((c : Thread nD τ).loc main_arg5)) (m ((c : Thread nD τ).loc main_arg6)) ⟨512 * t.val + y0, by omega⟩ (fun k => read0 m c t y0 _ rfl k) (fun k => ?_)
      (fun k => read4 m c t k) (read3 m c t) (read5 m c t) (read6 m c t)) ?_
    · unfold joined
      rw [dif_pos (by simp only []; omega)]
      refine Eq.trans ?_ (read1 m c t h0 y0 _ rfl k)
      pointwise [k0_pay4]
    · rw [← he]
  · rw [outB m c t h0 (by omega)]
    refine Eq.trans (row _ _ _ _ _ _ _ _ _ y0 y1 _ _ (m ((c : Thread nD τ).loc main_arg5)) (m ((c : Thread nD τ).loc main_arg6)) ⟨512 * t.val + y0, by omega⟩ (fun k => read0 m c t y0 _ rfl k) (fun k => ?_)
      (fun k => read4 m c t k) (read3 m c t) (read5 m c t) (read6 m c t)) ?_
    · unfold joined
      rw [dif_neg (by simp only []; omega)]
      refine Eq.trans ?_ (read2 m c t h0 y0 _ (by simp only []; omega) k)
      pointwise [k0_pay5]
    · rw [← he]

end Cert.Kernel2Ideal.Mine
end
-- ==== Proof.Rms.lean ====
/- The query, key and value projection: what each grid point stores is the reference's block. -/
module

public import proofs.«01_k».proof.Proof.Gen.Kernel3Ideal.Value
public import proofs.«01_k».proof.Proof.Gen.Reference3Ideal.Read
public import Idealize.ShloMosaic.Lib.Pointwise
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.Kernel3Ideal.Mine

open Cert.Kernel3Ideal Cert.Kernel3Ideal.Gen

/-- The normed and projected element, as both programs spell it. -/
def proj (X : FVec Ideal S17408x1024 .f32) (g : FVec Ideal S1024 .f32) (W : FVec Ideal S1024x1536 .bf16)
    (r : Fin 17408) (c : Fin 1536) : EReal :=
  ∑ k : Fin 1024, X (ix2 r k) * Ideal.rsqrt (Ideal.div (∑ l : Fin 1024, X (ix2 r l) * X (ix2 r l)) (Ideal.ofBits .f32 0x44800000#32)
    + Ideal.ofBits .f32 0x358637BD#32) * g (ix1 k) * W (ix2 k c)

open Cert.Reference3Ideal.Read in
theorem ref16 (X : FVec Ideal S17408x1024 .f32) (g : FVec Ideal S1024 .f32) (W : FVec Ideal S1024x1536 .bf16)
    (r : Fin 17408) (c : Fin 512) :
    val_main_v16 (F := Ideal) X g W (ix2 r c) = proj X g W r ⟨1024 + c, by omega⟩ := by
  pointwise [val_main_v0, val_main_cst, val_main_v1, val_main_v2, val_main_cst_0, val_main_v3, val_main_v4, val_main_cst_1, val_main_v5, val_main_v6, val_main_v7, val_main_v8, val_main_v9, val_main_v10, val_main_v11, val_main_v12, val_main_v13, val_main_v14, val_main_v15, val_main_v16, val_main_cst_2, val_main_v17, val_main_v18, val_main_v19, val_main_v20, proj]

open Cert.Reference3Ideal.Read in
theorem ref20 (X : FVec Ideal S17408x1024 .f32) (g : FVec Ideal S1024 .f32) (W : FVec Ideal S1024x1536 .bf16)
    (r : Fin 17408) (c : Fin 1536) :
    val_main_v20 (F := Ideal) X g W (ix2 r c)
      = proj X g W r c * (if (c : ℕ) < 1024 then Ideal.ofBits .f32 0x3E000000#32 else 1) := by
  pointwise [val_main_v0, val_main_cst, val_main_v1, val_main_v2, val_main_cst_0, val_main_v3, val_main_v4, val_main_cst_1, val_main_v5, val_main_v6, val_main_v7, val_main_v8, val_main_v9, val_main_v10, val_main_v11, val_main_v12, val_main_v13, val_main_v14, val_main_v15, val_main_v16, val_main_cst_2, val_main_v17, val_main_v18, val_main_v19, val_main_v20, proj, proj]
  by_cases h : (c : ℕ) < 1024
  · rw [dif_pos h, if_pos h]
  · have e : (⟨1024 + ((c : ℕ) - 1024), by omega⟩ : Fin 1536) = c := Fin.ext (Nat.add_sub_cancel' (not_lt.mp h))
    rw [dif_neg h, if_neg h, mul_one, e]

/-- The lane's scale: an eighth over the query columns, one elsewhere. -/
theorem scale_eq (c : Fin 1536) :
    Scalar.select (IntOp.cmpi CmpIPredicate.slt (BitVec.ofNat 32 (c : ℕ)) 1024#32) (Ideal.ofBits FTy.f32 0x3E000000#32) (1 : EReal)
      = if (c : ℕ) < 1024 then Ideal.ofBits .f32 0x3E000000#32 else 1 := by
  word_cmp

theorem idx : ∀ t : Fin cfg0.N,
    win0_0.index t = ![t.val, 0] ∧ win0_1.index t = ![0, 0] ∧ win0_2.index t = ![0, 0]
      ∧ win0_3.index t = ![t.val, 0] ∧ win0_4.index t = ![t.val, 0] :=
  (by decide +kernel : ∀ t : Fin grid0.N, _)

variable (m : (ℓ : Loc nD τ sig) → Buf (Elt Ideal) ℓ)

/-- The column of the projection a key or value column is. -/
def kvCol (c : Fin 512) : Fin 1536 := ⟨1024 + c, by omega⟩

theorem core3 (x : FVec Ideal S512x1024 .f32) (g : FVec Ideal S1x1024 .f32) (W : FVec Ideal S1024x1536 .bf16)
    (X : FVec Ideal S17408x1024 .f32) (G : FVec Ideal S1024 .f32) (W' : FVec Ideal S1024x1536 .bf16)
    (r : Fin 512) (R : Fin 17408) (c : Fin 1536)
    (hx : ∀ k : Fin 1024, x (ix2 r k) = X (ix2 R k)) (hg : ∀ k : Fin 1024, g (ix2 (0 : Fin 1) k) = G (ix1 k))
    (hw : ∀ k : Fin 1024, W (ix2 k c) = W' (ix2 k c)) :
    k0_pay2 (F := Ideal) x g W (ix2 r c) = Cert.Reference3Ideal.Read.val_main_v20 (F := Ideal) X G W' (ix2 R c) := by
  rw [ref20, ← scale_eq]
  pointwise [k0_pay1, k0_pay2, proj]
  simp only [hx, hg, hw]

theorem core4 (x : FVec Ideal S512x1024 .f32) (g : FVec Ideal S1x1024 .f32) (W : FVec Ideal S1024x1536 .bf16)
    (X : FVec Ideal S17408x1024 .f32) (G : FVec Ideal S1024 .f32) (W' : FVec Ideal S1024x1536 .bf16)
    (r : Fin 512) (R : Fin 17408) (c : Fin 512)
    (hx : ∀ k : Fin 1024, x (ix2 r k) = X (ix2 R k)) (hg : ∀ k : Fin 1024, g (ix2 (0 : Fin 1) k) = G (ix1 k))
    (hw : ∀ k : Fin 1024, W (ix2 k (kvCol c)) = W' (ix2 k (kvCol c))) :
    k0_pay3 (F := Ideal) x g W (ix2 r c) = Cert.Reference3Ideal.Read.val_main_v16 (F := Ideal) X G W' (ix2 R c) := by
  rw [ref16]
  pointwise [k0_pay1, k0_pay3, proj]
  have hs := scale_eq (kvCol c)
  rw [if_neg (by simp only [kvCol]; omega)] at hs
  have hs' : Scalar.select (IntOp.cmpi CmpIPredicate.slt (BitVec.ofNat 32 (1024 + (c : ℕ))) 1024#32)
      (Ideal.ofBits FTy.f32 0x3E000000#32) (1 : EReal) = 1 := hs
  rw [hs', mul_one]
  simp only [kvCol] at hw
  simp only [hx, hg, hw]

theorem read0 (c : Dev nD) (t : Fin cfg0.N) (r : Fin 512) (R : Fin 17408) (h : (R : ℕ) = 512 * t.val + r) (k : Fin 1024) :
    iblk m c 0 t (ix2 r k) = m ((c : Thread nD τ).loc main_arg0) (ix2 R k) := by
  blk_ext [iblk, V, idx t]

theorem read1 (c : Dev nD) (t : Fin cfg0.N) (k : Fin 1024) :
    iblk m c 1 t (ix2 (0 : Fin 1) k) = m ((c : Thread nD τ).loc main_arg1) (ix1 k) := by
  blk_point [iblk, V, idx t]

theorem read2 (c : Dev nD) (t : Fin cfg0.N) (k : Fin 1024) (j : Fin 1536) :
    iblk m c 2 t (ix2 k j) = m ((c : Thread nD τ).loc main_arg2) (ix2 k j) := by
  blk_ext [iblk, V, idx t]

theorem final3 (c : Dev nD) : (dats m 0 c).arrAt 3 (cfgs 0).N
    = Cert.Reference3Ideal.Read.val_main_v20 (F := Ideal) (m ((c : Thread nD τ).loc main_arg0)) (m ((c : Thread nD τ).loc main_arg1))
          (m ((c : Thread nD τ).loc main_arg2)) := by
  refine (dats m 0 c).arrAt_eq_of_covers 3 _ (by decide +kernel) fun t _ y => ?_
  blk_simp
  rw [after0_3]; unfold outsAt0; frame_out
  idx_vars y
  have ht : t.val < 34 := lt_of_lt_of_eq t.isLt N_0
  have he : ((cfg0.win 3).blk t).view.emb (ix2 y0 y1) = ix2 (⟨512 * t.val + y0, by omega⟩ : Fin 17408) y1 := by
    blk_ext [idx t]
  refine Eq.trans (core3 _ _ _ _ _ _ y0 ⟨512 * t.val + y0, by omega⟩ y1 (fun k => read0 m c t y0 _ rfl k)
    (fun k => read1 m c t k) (fun k => read2 m c t k y1)) ?_
  rw [← he]

theorem final4 (c : Dev nD) : (dats m 0 c).arrAt 4 (cfgs 0).N
    = Cert.Reference3Ideal.Read.val_main_v16 (F := Ideal) (m ((c : Thread nD τ).loc main_arg0)) (m ((c : Thread nD τ).loc main_arg1))
          (m ((c : Thread nD τ).loc main_arg2)) := by
  refine (dats m 0 c).arrAt_eq_of_covers 4 _ (by decide +kernel) fun t _ y => ?_
  blk_simp
  rw [after0_4]; unfold outsAt0; frame_out
  idx_vars y
  have ht : t.val < 34 := lt_of_lt_of_eq t.isLt N_0
  have he : ((cfg0.win 4).blk t).view.emb (ix2 y0 y1) = ix2 (⟨512 * t.val + y0, by omega⟩ : Fin 17408) y1 := by
    blk_ext [idx t]
  refine Eq.trans (core4 _ _ _ _ _ _ y0 ⟨512 * t.val + y0, by omega⟩ y1 (fun k => read0 m c t y0 _ rfl k)
    (fun k => read1 m c t k) (fun k => read2 m c t k (kvCol y1))) ?_
  rw [← he]

end Cert.Kernel3Ideal.Mine
end
-- ==== Proof.Comb.lean ====
/- The merge of three attentions by the softmax of their log-denominators: the weighted sum is the quotient of two sums. -/
module

public import proofs.«01_k».proof.Proof.Gen.Reference4Ideal.Read
public import proofs.«01_k».proof.Proof.Post

@[expose] public section

set_option maxRecDepth 16384

noncomputable section

open Idealize.ShloMosaic

namespace Cert.Comb

open Cert.Reference4Ideal (S1x16384x512 S4x4096x512 S16x1024x512 S1024x512 S17408x1024 S512x1024 S1024x5632 S2816x1024 S1024)
open Cert.Kernel2Ideal.Mine (ffn normed)

/-- Three outputs, weighted by the exponentials of their log-denominators, over the sum of the weights. -/
def mix (l0 l1 l2 o0 o1 o2 : EReal) : EReal :=
  Ideal.div (Ideal.exp (l0 - max (max l0 l1) l2) * o0 + Ideal.exp (l1 - max (max l0 l1) l2) * o1 + Ideal.exp (l2 - max (max l0 l1) l2) * o2)
    (Ideal.exp (l0 - max (max l0 l1) l2) + Ideal.exp (l1 - max (max l0 l1) l2) + Ideal.exp (l2 - max (max l0 l1) l2))

/-- A finite extended real. -/
def Real' (x : EReal) : Prop := x ≠ ⊤ ∧ x ≠ ⊥

/-- The sum of the outputs with normalized weights is the quotient of the two sums. -/
theorem mix_eq (l0 l1 l2 o0 o1 o2 : EReal) (h0 : Real' l0) (h1 : Real' l1) (h2 : Real' l2) :
    Ideal.div (Ideal.exp (l0 - max (max l0 l1) l2)) (Ideal.exp (l0 - max (max l0 l1) l2) + Ideal.exp (l1 - max (max l0 l1) l2) + Ideal.exp (l2 - max (max l0 l1) l2)) * o0
      + Ideal.div (Ideal.exp (l1 - max (max l0 l1) l2)) (Ideal.exp (l0 - max (max l0 l1) l2) + Ideal.exp (l1 - max (max l0 l1) l2) + Ideal.exp (l2 - max (max l0 l1) l2)) * o1
      + Ideal.div (Ideal.exp (l2 - max (max l0 l1) l2)) (Ideal.exp (l0 - max (max l0 l1) l2) + Ideal.exp (l1 - max (max l0 l1) l2) + Ideal.exp (l2 - max (max l0 l1) l2)) * o2
      = mix l0 l1 l2 o0 o1 o2 := by
  lift l0 to ℝ using h0
  lift l1 to ℝ using h1
  lift l2 to ℝ using h2
  unfold mix
  rw [← EReal.coe_strictMono.monotone.map_max, ← EReal.coe_strictMono.monotone.map_max, ← EReal.coe_sub, ← EReal.coe_sub, ← EReal.coe_sub,
    Ideal.exp_coe, Ideal.exp_coe, Ideal.exp_coe, ← EReal.coe_add, ← EReal.coe_add]
  set a := Real.exp (l0 - max (max l0 l1) l2) with ha
  set b := Real.exp (l1 - max (max l0 l1) l2) with hb
  set c := Real.exp (l2 - max (max l0 l1) l2) with hc
  have hp : 0 < a + b + c := by rw [ha, hb, hc]; positivity
  have hne : ((a + b + c : ℝ) : EReal) ≠ 0 := by exact_mod_cast hp.ne'
  have hi : (0 : EReal) ≤ (((a + b + c)⁻¹ : ℝ) : EReal) := by exact_mod_cast (inv_pos.mpr hp).le
  simp only [Ideal.div, if_neg hne, ← EReal.coe_inv]
  rw [EReal.right_distrib_of_nonneg_of_ne_top hi (EReal.coe_ne_top _), EReal.right_distrib_of_nonneg_of_ne_top hi (EReal.coe_ne_top _),
    mul_right_comm, mul_right_comm _ _ o1, mul_right_comm _ _ o2]

/-- The merged attention of the prompt's rows, then the sample's. -/
def joined (o1 l1 : FVec Ideal S1x16384x512 .f32) (o4 l4 : FVec Ideal S4x4096x512 .f32) (o16 l16 : FVec Ideal S16x1024x512 .f32)
    (os : FVec Ideal S1024x512 .f32) (r : Fin 17408) (k : Fin 512) : EReal :=
  if h : (r : ℕ) < 16384 then
    mix (l1 (ix3 0 ⟨r, h⟩ k)) (l4 (ix3 ⟨r % 4, by omega⟩ ⟨r / 4, by omega⟩ k)) (l16 (ix3 ⟨r % 16, by omega⟩ ⟨r / 16, by omega⟩ k))
      (o1 (ix3 0 ⟨r, h⟩ k)) (o4 (ix3 ⟨r % 4, by omega⟩ ⟨r / 4, by omega⟩ k)) (o16 (ix3 ⟨r % 16, by omega⟩ ⟨r / 16, by omega⟩ k))
  else os (ix2 ⟨r - 16384, by omega⟩ k)

/-- The log-denominators are finite. -/
def Fine (l1 : FVec Ideal S1x16384x512 .f32) (l4 : FVec Ideal S4x4096x512 .f32) (l16 : FVec Ideal S16x1024x512 .f32) : Prop :=
  (∀ i, Real' (l1 i)) ∧ (∀ i, Real' (l4 i)) ∧ ∀ i, Real' (l16 i)

open Cert.Reference4Ideal.Read

theorem stack19 (l1 : FVec Ideal S1x16384x512 .f32) (l4 : FVec Ideal S4x4096x512 .f32) (l16 : FVec Ideal S16x1024x512 .f32)
    (r : Fin 16384) (k : Fin 512) :
    val_main_v19 (F := Ideal) l1 l4 l16 (ix3 0 r k) = l1 (ix3 0 r k)
      ∧ val_main_v19 (F := Ideal) l1 l4 l16 (ix3 1 r k) = l4 (ix3 ⟨r % 4, by omega⟩ ⟨r / 4, by omega⟩ k)
      ∧ val_main_v19 (F := Ideal) l1 l4 l16 (ix3 2 r k) = l16 (ix3 ⟨r % 16, by omega⟩ ⟨r / 16, by omega⟩ k) := by
  refine ⟨?_, ?_, ?_⟩ <;>
  pointwise [val_main_v10, val_main_v11, val_main_v12, val_main_v13, val_main_v14, val_main_v15, val_main_v16, val_main_v17, val_main_v18, val_main_v19]

/-- The stack of the outputs is the stack of the log-denominators, of other arrays. -/
theorem stack9 (o1 : FVec Ideal S1x16384x512 .f32) (o4 : FVec Ideal S4x4096x512 .f32) (o16 : FVec Ideal S16x1024x512 .f32) :
    val_main_v9 (F := Ideal) o1 o4 o16 = val_main_v19 (F := Ideal) o1 o4 o16 := rfl

theorem negInf : Ideal.ofBits .f32 0xFF800000#32 = ⊥ := by simp [Ideal.ofBits, Ideal.ieee]

/-- The greatest of the three layers of a stack. -/
theorem top (y : FVec Ideal Cert.Reference4Ideal.S3x16384x512 .f32) (r : Fin 16384) (k : Fin 512) :
    Host.reduce FloatOps.maximumf y (val_main_cst (F := Ideal)) Cert.Reference4Ideal.Gen.reducesTo_S3x16384x512_S16384x512_d0 Cert.Reference4Ideal.Gen.h_S_ (ix2 r k)
      = max (max (y (ix3 0 r k)) (y (ix3 1 r k))) (y (ix3 2 r k)) := by
  pointwise [val_main_cst]
  generalize hz : (fun x : Fin 3 => y (ix3 x r k)) = z
  have e : ∀ x, y (ix3 x r k) = z x := fun x => by rw [← hz]
  rw [e, e, e, negInf]
  have hu : (Finset.univ : Finset (Fin 3)) = {0, 1, 2} := by decide
  rw [hu]
  simp [max_assoc]

theorem m22 (l1 : FVec Ideal S1x16384x512 .f32) (l4 : FVec Ideal S4x4096x512 .f32) (l16 : FVec Ideal S16x1024x512 .f32) (r : Fin 16384) (k : Fin 512) :
    val_main_v22 (F := Ideal) l1 l4 l16 (ix2 r k)
      = max (max (val_main_v19 (F := Ideal) l1 l4 l16 (ix3 0 r k)) (val_main_v19 (F := Ideal) l1 l4 l16 (ix3 1 r k))) (val_main_v19 (F := Ideal) l1 l4 l16 (ix3 2 r k)) := by
  rw [val_main_v22_apply, val_main_v21_apply, val_main_cst_0_apply]
  unfold val_main_v20
  rw [top]
  generalize val_main_v19 (F := Ideal) l1 l4 l16 = y
  generalize max (max (y (ix3 0 r k)) (y (ix3 1 r k))) (y (ix3 2 r k)) = z
  refine (max_eq_right (a := Ideal.ofBits .f32 0xFF800000#32) (b := z) ?_)
  rw [negInf]
  exact bot_le

theorem ref32 (o1 l1 : FVec Ideal S1x16384x512 .f32) (o4 l4 : FVec Ideal S4x4096x512 .f32) (o16 l16 : FVec Ideal S16x1024x512 .f32)
    (hf : Fine l1 l4 l16) (r : Fin 16384) (k : Fin 512) :
    val_main_v32 (F := Ideal) o1 l1 o4 l4 o16 l16 (ix2 r k)
      = mix (l1 (ix3 0 r k)) (l4 (ix3 ⟨r % 4, by omega⟩ ⟨r / 4, by omega⟩ k)) (l16 (ix3 ⟨r % 16, by omega⟩ ⟨r / 16, by omega⟩ k))
        (o1 (ix3 0 r k)) (o4 (ix3 ⟨r % 4, by omega⟩ ⟨r / 4, by omega⟩ k)) (o16 (ix3 ⟨r % 16, by omega⟩ ⟨r / 16, by omega⟩ k)) := by
  rw [← mix_eq _ _ _ _ _ _ (hf.1 _) (hf.2.1 _) (hf.2.2 _), ← (stack19 l1 l4 l16 r k).1, ← (stack19 l1 l4 l16 r k).2.1, ← (stack19 l1 l4 l16 r k).2.2,
    ← (stack19 o1 o4 o16 r k).1, ← (stack19 o1 o4 o16 r k).2.1, ← (stack19 o1 o4 o16 r k).2.2, ← m22]
  rw [← stack9 o1 o4 o16]
  pointwise [val_main_v23, val_main_v24, val_main_v25, val_main_v26, val_main_cst_1, val_main_v27, val_main_v28, val_main_v29, val_main_v30, val_main_v31, val_main_cst_2, val_main_v32]
  simp only [Fin.sum_univ_three]

theorem ref33 (o1 l1 : FVec Ideal S1x16384x512 .f32) (o4 l4 : FVec Ideal S4x4096x512 .f32) (o16 l16 : FVec Ideal S16x1024x512 .f32)
    (os : FVec Ideal S1024x512 .f32) (hf : Fine l1 l4 l16) (r : Fin 17408) (k : Fin 512) :
    val_main_v33 (F := Ideal) o1 l1 o4 l4 o16 l16 os (ix2 r k) = joined o1 l1 o4 l4 o16 l16 os r k := by
  unfold joined
  split
  · next h =>
    rw [← ref32 o1 l1 o4 l4 o16 l16 hf ⟨r, h⟩ k]
    pointwise [val_main_v33]
    rw [dif_pos h]
  · next h =>
    pointwise [val_main_v33]
    rw [dif_neg h]

theorem ref58 (X : FVec Ideal S17408x1024 .f32) (Wo : FVec Ideal S512x1024 .bf16) (g : FVec Ideal S1024 .f32)
    (Wg : FVec Ideal S1024x5632 .bf16) (Wd : FVec Ideal S2816x1024 .bf16)
    (o1 l1 : FVec Ideal S1x16384x512 .f32) (o4 l4 : FVec Ideal S4x4096x512 .f32) (o16 l16 : FVec Ideal S16x1024x512 .f32)
    (os : FVec Ideal S1024x512 .f32) (hf : Fine l1 l4 l16) (r : Fin 17408) (c : Fin 1024) :
    val_main_v58 (F := Ideal) X Wo g Wg Wd o1 l1 o4 l4 o16 l16 os (ix2 r c)
      = ffn (fun c => X (ix2 r c) + ∑ k : Fin 512, joined o1 l1 o4 l4 o16 l16 os r k * Wo (ix2 k c)) g Wg Wd c := by
  simp only [← ref33 o1 l1 o4 l4 o16 l16 os hf]
  pointwise [val_main_v34, val_main_v35, val_main_v36, val_main_v37, val_main_cst_3, val_main_v38, val_main_v39, val_main_cst_4, val_main_v40, val_main_v41, val_main_cst_5, val_main_v42, val_main_v43, val_main_v44, val_main_v45, val_main_v46, val_main_v47, val_main_v48, val_main_v49, val_main_v50, val_main_v51, val_main_v52, val_main_v53, val_main_call0_v0, val_main_call0_v1, val_main_call0_cst, val_main_call0_v2, val_main_call0_v3, val_main_call0_cst_0, val_main_call0_v4, val_main_call0_v5, val_main_v54, val_main_v55, val_main_v56, val_main_v57, val_main_v58, ffn, normed]

end Cert.Comb
end
-- ==== Proof.Pre4.lean ====
/- What the merge's precondition says of the three arrays of log-denominators. -/
module

public import proofs.«01_k».proof.Pre_finite4
public import proofs.«01_k».proof.Proof.Pre
public import proofs.«01_k».proof.Proof.Comb

@[expose] public section

set_option maxRecDepth 16384

noncomputable section

open Idealize.ShloMosaic

namespace Cert.Pre_finite4.Mine

open Cert.Pre_finite4 Cert.Comb

theorem facts : Cert.Pre_finite4.Facts := ⟨by decide, by decide, by decide, by decide, by decide, by decide, by decide⟩

/-- The test of one array. -/
def test {s : Shape} (hb : S_.BroadcastsInDim s (![] : Fin 0 → Fin s.rank)) (l : FVec Ideal s .f32) : IVec s 1 :=
  cmpf .olt (Host.absf l) (broadcastInDim s ![] hb (constant (F := Ideal) S_ .f32 0x7F800000#32))

theorem real_of {s : Shape} (hb : S_.BroadcastsInDim s (![] : Fin 0 → Fin s.rank)) (l : FVec Ideal s .f32) (i : s.Idx)
    (h : test hb l i = 1#1) : Real' (l i) := by
  have h1 : Ideal.cmp .olt (FloatOps.absf (F := Ideal) (φ := .f32) (l i)) (Ideal.ofBits .f32 0x7F800000#32) = 1#1 := h
  rw [Cert.Pre_finite.Mine.posInf] at h1
  have h2 := Cert.Pre_finite.Mine.lt_of _ _ h1
  constructor
  · intro e
    rw [e] at h2
    exact absurd h2 (by simp [FloatOps.absf])
  · intro e
    rw [e] at h2
    exact absurd h2 (by simp [FloatOps.absf])

instance : Subsingleton S_.Idx := ⟨fun a b => funext fun i => i.elim0⟩

/-- The precondition's meaning. -/
theorem fine [Cert.Pre_finite4.Facts] (x : FVec Ideal S17408x1024 .f32) (wo : FVec Ideal S512x1024 .bf16) (g : FVec Ideal S1024 .f32)
    (wg : FVec Ideal S1024x5632 .bf16) (wd : FVec Ideal S2816x1024 .bf16) (o1 l1 : FVec Ideal S1x16384x512 .f32)
    (o4 l4 : FVec Ideal S4x4096x512 .f32) (o16 l16 : FVec Ideal S16x1024x512 .f32) (os : FVec Ideal S1024x512 .f32)
    (h : Cert.Pre_finite4.fn (F := Ideal) x wo g wg wd o1 l1 o4 l4 o16 l16 os = fun _ => 1#1) : Fine l1 l4 l16 := by
  have h0 := congrFun h (fun a => a.elim0)
  dsimp only [Cert.Pre_finite4.fn] at h0
  obtain ⟨h14, h16⟩ := IntOp.andi_eq_one.mp h0
  obtain ⟨h1, h4⟩ := IntOp.andi_eq_one.mp h14
  exact ⟨fun i => real_of Facts.bcast_S_S1x16384x512 l1 i (Host.reduce_andi_all _ _ _ _ _ h1 i),
    fun i => real_of Facts.bcast_S_S4x4096x512 l4 i (Host.reduce_andi_all _ _ _ _ _ h4 i),
    fun i => real_of Facts.bcast_S_S16x1024x512 l16 i (Host.reduce_andi_all _ _ _ _ _ h16 i)⟩

end Cert.Pre_finite4.Mine
end
-- ==== Proof.Merge.lean ====
/- The merge of the dilated attentions, the output projection and the feed-forward network: what each grid point stores is the reference's block. -/
module

public import proofs.«01_k».proof.Proof.Gen.Kernel4Ideal.Value
public import proofs.«01_k».proof.Proof.Comb
public import Idealize.ShloMosaic.Lib.Pointwise
public import Idealize.ShloMosaic.Lib.Pipeline.ValueKit
public import Idealize.ShloMosaic.Lib.Pipeline.ReadBack

@[expose] public section

set_option maxRecDepth 16384

noncomputable section

open Idealize.ShloMosaic Idealize.ShloMosaic.TcCoe Idealize.SL.Sem
open Idealize.ShloMosaic.Pipeline (Dat)

namespace Cert.Kernel4Ideal.Mine

open Cert.Kernel4Ideal Cert.Kernel4Ideal.Gen
open Cert.Kernel2Ideal.Mine (act actM stage ffn normed)
open Cert.Comb (mix joined Fine)

/-- An element of a three-axis array at natural coordinates, zero outside. -/
def rd {a b w : ℕ} (x : FVec Ideal ⟨3, ![a, b, w]⟩ .f32) (c r k : ℕ) : EReal :=
  if h : c < a ∧ r < b ∧ k < w then x (ix3 ⟨c, h.1⟩ ⟨r, h.2.1⟩ ⟨k, h.2.2⟩) else 0

theorem rd_eq {a b w : ℕ} (x : FVec Ideal ⟨3, ![a, b, w]⟩ .f32) (c : Fin a) (r : Fin b) (k : Fin w) : rd x c r k = x (ix3 c r k) := by
  unfold rd
  rw [dif_pos ⟨c.isLt, r.isLt, k.isLt⟩]

/-- Element (slot, row, lane) of the scratch: slots 0 to 3 hold the four lane blocks of the dilation-4 outputs, 4 to 7 those of their
    log-denominators, 8 to 11 and 12 to 15 those of dilation 16; row `r` is row `r / d` of class `r % d`. -/
def slot (x3 x4 : FVec Ideal S4x128x512 .f32) (x5 x6 : FVec Ideal S16x32x512 .f32) (s r k : ℕ) : EReal :=
  if s < 4 then rd x3 (r % 4) (r / 4) (128 * s + k)
  else if s < 8 then rd x4 (r % 4) (r / 4) (128 * (s - 4) + k)
  else if s < 12 then rd x5 (r % 16) (r / 16) (128 * (s - 8) + k)
  else rd x6 (r % 16) (r / 16) (128 * (s - 12) + k)

/-- The scratch when all is stored. -/
def slots (x3 x4 : FVec Ideal S4x128x512 .f32) (x5 x6 : FVec Ideal S16x32x512 .f32) : S16x512x128.Idx → EReal :=
  fun y => slot x3 x4 x5 x6 (y 0) (y 1) (y 2)

theorem ld3 {a b w p q : ℕ} (x : FVec Ideal ⟨3, ![a, b, w]⟩ .f32) (c o : ℕ) (inb) (r : Fin p) (k : Fin q) :
    View.ld (Val := Elt Ideal) (S := ⟨3, ![a, b, w]⟩) (e' := .f32) x (Rect.unit ![c, 0, o] ![1, p, q] inb) (ix3 (0 : Fin 1) r k)
      = rd x c r (o + k) := by
  have h0 : c + 1 ≤ a := inb 0
  have h1 : 0 + p ≤ b := inb 1
  have h2 : o + q ≤ w := inb 2
  unfold rd
  rw [dif_pos ⟨by omega, by omega, by omega⟩]
  refine congrArg x ?_
  funext i
  match i with
  | ⟨0, _⟩ => exact Fin.ext (by simp [LoadRect.idx])
  | ⟨1, _⟩ => exact Fin.ext (by simp [LoadRect.idx])
  | ⟨2, _⟩ => exact Fin.ext (by simp [LoadRect.idx])

theorem cast4 (v : FVec Ideal S1x128x128 .f32) (h1 h2) : shapeCast S1x128x128 (shapeCast S128x128 v h1) h2 = v := by
  funext z
  idx_vars z
  pointwise

theorem cast16 (v : FVec Ideal S1x32x128 .f32) (h1 h2) : shapeCast S1x32x128 (shapeCast S32x128 v h1) h2 = v := by
  funext z
  idx_vars z
  pointwise

/-- A store of every `d`-th row of a slot, from row `c` on. -/
theorem emb_slot (x3 x4 : FVec Ideal S4x128x512 .f32) (x5 x6 : FVec Ideal S16x32x512 .f32) (s c d n : ℕ) (inb pos)
    (z0 : Fin 1) (z1 : Fin n) (z2 : Fin 128) :
    slots x3 x4 x5 x6 ((Rect.mk (s := S16x512x128) (LoadRect.mk ![s, c, 0] ![1, n, 128] ![1, d, 1] inb) pos).emb (ix3 z0 z1 z2))
      = slot x3 x4 x5 x6 s (c + d * z1) z2 := by
  have e0 : (((Rect.mk (s := S16x512x128) (LoadRect.mk ![s, c, 0] ![1, n, 128] ![1, d, 1] inb) pos).emb (ix3 z0 z1 z2)) 0 : ℕ) = s := by
    refine (Rect.emb_apply _ _ _).trans ?_
    show s + 1 * (z0 : ℕ) = s
    omega
  have e1 : (((Rect.mk (s := S16x512x128) (LoadRect.mk ![s, c, 0] ![1, n, 128] ![1, d, 1] inb) pos).emb (ix3 z0 z1 z2)) 1 : ℕ) = c + d * z1 := by
    refine (Rect.emb_apply _ _ _).trans ?_
    show c + d * (z1 : ℕ) = c + d * z1
    rfl
  have e2 : (((Rect.mk (s := S16x512x128) (LoadRect.mk ![s, c, 0] ![1, n, 128] ![1, d, 1] inb) pos).emb (ix3 z0 z1 z2)) 2 : ℕ) = z2 := by
    refine (Rect.emb_apply _ _ _).trans ?_
    show 0 + 1 * (z2 : ℕ) = z2
    omega
  unfold slots
  rw [e0, e1, e2]

theorem piece_o4 (x3 x4 : FVec Ideal S4x128x512 .f32) (x5 x6 : FVec Ideal S16x32x512 .f32) (s c o : ℕ) (h : 0 ≤ s ∧ s < 4 ∧ c < 4 ∧ o = 128 * s)
    (inb pos inb' h1 h2) (z : S1x128x128.Idx) :
    shapeCast S1x128x128 (shapeCast S128x128 (View.ld (Val := Elt Ideal) (S := S4x128x512) (e' := .f32) x3 (Rect.unit ![c, 0, o] ![1, 128, 128] inb')) h1) h2 z
      = slots x3 x4 x5 x6 ((Rect.mk (s := S16x512x128) (LoadRect.mk ![s, c, 0] ![1, 128, 128] ![1, 4, 1] inb) pos).emb z) := by
  idx_vars z
  obtain rfl : z0 = (0 : Fin 1) := Subsingleton.elim _ _
  refine (congrFun (cast4 _ h1 h2) _).trans ?_
  refine (ld3 x3 c o inb' z1 z2).trans ?_
  refine Eq.trans ?_ (emb_slot x3 x4 x5 x6 s c 4 128 inb pos 0 z1 z2).symm
  unfold slot
  rw [if_pos (by omega), show (c + 4 * (z1 : ℕ)) % 4 = c by omega, show (c + 4 * (z1 : ℕ)) / 4 = z1 by omega, h.2.2.2]

theorem piece_l4 (x3 x4 : FVec Ideal S4x128x512 .f32) (x5 x6 : FVec Ideal S16x32x512 .f32) (s c o : ℕ) (h : 4 ≤ s ∧ s < 8 ∧ c < 4 ∧ o = 128 * (s - 4))
    (inb pos inb' h1 h2) (z : S1x128x128.Idx) :
    shapeCast S1x128x128 (shapeCast S128x128 (View.ld (Val := Elt Ideal) (S := S4x128x512) (e' := .f32) x4 (Rect.unit ![c, 0, o] ![1, 128, 128] inb')) h1) h2 z
      = slots x3 x4 x5 x6 ((Rect.mk (s := S16x512x128) (LoadRect.mk ![s, c, 0] ![1, 128, 128] ![1, 4, 1] inb) pos).emb z) := by
  idx_vars z
  obtain rfl : z0 = (0 : Fin 1) := Subsingleton.elim _ _
  refine (congrFun (cast4 _ h1 h2) _).trans ?_
  refine (ld3 x4 c o inb' z1 z2).trans ?_
  refine Eq.trans ?_ (emb_slot x3 x4 x5 x6 s c 4 128 inb pos 0 z1 z2).symm
  unfold slot
  rw [if_neg (by omega), if_pos (by omega), show (c + 4 * (z1 : ℕ)) % 4 = c by omega, show (c + 4 * (z1 : ℕ)) / 4 = z1 by omega, h.2.2.2]

theorem piece_o16 (x3 x4 : FVec Ideal S4x128x512 .f32) (x5 x6 : FVec Ideal S16x32x512 .f32) (s c o : ℕ) (h : 8 ≤ s ∧ s < 12 ∧ c < 16 ∧ o = 128 * (s - 8))
    (inb pos inb' h1 h2) (z : S1x32x128.Idx) :
    shapeCast S1x32x128 (shapeCast S32x128 (View.ld (Val := Elt Ideal) (S := S16x32x512) (e' := .f32) x5 (Rect.unit ![c, 0, o] ![1, 32, 128] inb')) h1) h2 z
      = slots x3 x4 x5 x6 ((Rect.mk (s := S16x512x128) (LoadRect.mk ![s, c, 0] ![1, 32, 128] ![1, 16, 1] inb) pos).emb z) := by
  idx_vars z
  obtain rfl : z0 = (0 : Fin 1) := Subsingleton.elim _ _
  refine (congrFun (cast16 _ h1 h2) _).trans ?_
  refine (ld3 x5 c o inb' z1 z2).trans ?_
  refine Eq.trans ?_ (emb_slot x3 x4 x5 x6 s c 16 32 inb pos 0 z1 z2).symm
  unfold slot
  rw [if_neg (by omega), if_neg (by omega), if_pos (by omega), show (c + 16 * (z1 : ℕ)) % 16 = c by omega, show (c + 16 * (z1 : ℕ)) / 16 = z1 by omega, h.2.2.2]

theorem piece_l16 (x3 x4 : FVec Ideal S4x128x512 .f32) (x5 x6 : FVec Ideal S16x32x512 .f32) (s c o : ℕ) (h : 12 ≤ s ∧ s < 16 ∧ c < 16 ∧ o = 128 * (s - 12))
    (inb pos inb' h1 h2) (z : S1x32x128.Idx) :
    shapeCast S1x32x128 (shapeCast S32x128 (View.ld (Val := Elt Ideal) (S := S16x32x512) (e' := .f32) x6 (Rect.unit ![c, 0, o] ![1, 32, 128] inb')) h1) h2 z
      = slots x3 x4 x5 x6 ((Rect.mk (s := S16x512x128) (LoadRect.mk ![s, c, 0] ![1, 32, 128] ![1, 16, 1] inb) pos).emb z) := by
  idx_vars z
  obtain rfl : z0 = (0 : Fin 1) := Subsingleton.elim _ _
  refine (congrFun (cast16 _ h1 h2) _).trans ?_
  refine (ld3 x6 c o inb' z1 z2).trans ?_
  refine Eq.trans ?_ (emb_slot x3 x4 x5 x6 s c 16 32 inb pos 0 z1 z2).symm
  unfold slot
  rw [if_neg (by omega), if_neg (by omega), if_neg (by omega), show (c + 16 * (z1 : ℕ)) % 16 = c by omega, show (c + 16 * (z1 : ℕ)) / 16 = z1 by omega, h.2.2.2]

/-- A store of the list covers class `c` of slot `s`, `n` rows at distance `d`. -/
def hit (L : List (View.Piece (Elt Ideal) S16x512x128 .f32)) (d n s c : ℕ) : Bool :=
  L.any fun p => p.1.off 0 == s && p.1.off 1 == c && p.1.off 2 == 0 && p.1.stride 0 == 1 && p.1.stride 1 == d && p.1.stride 2 == 1
    && p.1.size 0 == 1 && p.1.size 1 == n && p.1.size 2 == 128

/-- Every class of every slot has a store. -/
def full (L : List (View.Piece (Elt Ideal) S16x512x128 .f32)) : Bool :=
  (List.range 8).all (fun s => (List.range 4).all fun c => hit L 4 128 s c)
    && (List.range 8).all fun s => (List.range 16).all fun c => hit L 16 32 (8 + s) c

theorem mem_of_hit (L : List (View.Piece (Elt Ideal) S16x512x128 .f32)) (d n s c : ℕ) (h : hit L d n s c = true) (y : S16x512x128.Idx)
    (h0 : (y 0 : ℕ) = s) (r : ℕ) (hr : r < n) (h1 : (y 1 : ℕ) = c + d * r) : ∃ p ∈ L, y ∈ p.1.set := by
  unfold hit at h
  rw [List.any_eq_true] at h
  obtain ⟨p, hp, hq⟩ := h
  simp only [Bool.and_eq_true, beq_iff_eq] at hq
  obtain ⟨⟨⟨⟨⟨⟨⟨⟨o0, o1⟩, o2⟩, s0⟩, s1⟩, s2⟩, z0⟩, z1⟩, z2⟩ := hq
  refine ⟨p, hp, LoadRect.mem_set _ |>.mpr fun a => ?_⟩
  match a with
  | ⟨0, _⟩ => exact ⟨0, lt_of_lt_of_eq Nat.one_pos z0.symm, h0.trans (by rw [show p.1.off ⟨0, _⟩ = s from o0]; omega)⟩
  | ⟨1, _⟩ => exact ⟨r, lt_of_lt_of_eq hr z1.symm, h1.trans (by rw [show p.1.off ⟨1, _⟩ = c from o1, show p.1.stride ⟨1, _⟩ = d from s1])⟩
  | ⟨2, _⟩ => exact ⟨(y 2 : ℕ), lt_of_lt_of_eq (y 2).isLt z2.symm, by rw [show p.1.off ⟨2, _⟩ = 0 from o2, show p.1.stride ⟨2, _⟩ = 1 from s2, zero_add, one_mul]; rfl⟩

theorem cover (L : List (View.Piece (Elt Ideal) S16x512x128 .f32)) (h : full L = true) (y : S16x512x128.Idx) : ∃ p ∈ L, y ∈ p.1.set := by
  simp only [full, Bool.and_eq_true, List.all_eq_true, List.mem_range] at h
  have b0 : (y 0 : ℕ) < 16 := (y 0).isLt
  have b1 : (y 1 : ℕ) < 512 := (y 1).isLt
  by_cases hs : (y 0 : ℕ) < 8
  · exact mem_of_hit L _ _ _ _ (h.1 _ hs ((y 1 : ℕ) % 4) (by omega)) y rfl ((y 1 : ℕ) / 4) (by omega) (by omega)
  · exact mem_of_hit L _ _ _ _ (h.2 ((y 0 : ℕ) - 8) (by omega) ((y 1 : ℕ) % 16) (by omega)) y (by omega) ((y 1 : ℕ) / 16) (by omega) (by omega)

theorem canon_slots (x3 x4 : FVec Ideal S4x128x512 .f32) (x5 x6 : FVec Ideal S16x32x512 .f32)
    (L : List (View.Piece (Elt Ideal) S16x512x128 .f32)) (hP : View.PiecesOf (slots x3 x4 x5 x6) L) (hC : full L = true) (y : S16x512x128.Idx) :
    View.canon L y = slots x3 x4 x5 x6 y := by
  have h := View.canon_append_of_piecesOf (slots x3 x4 x5 x6) [] L hP y (cover L hC y)
  rwa [List.append_nil] at h

/-- A slot, read back whole. -/
theorem read_slot (v16 : Memref sig .tc .vmem S16x512x128 .f32) (x3 x4 : FVec Ideal S4x128x512 .f32) (x5 x6 : FVec Ideal S16x32x512 .f32)
    (L : List (View.Piece (Elt Ideal) S16x512x128 .f32)) (hL : ∀ y, View.canon L y = slots x3 x4 x5 x6 y) (s : ℕ) (inb) (r : Fin 512) (k : Fin 128) :
    v16.view.readCov L (Rect.unit (s := S16x512x128) ![s, 0, 0] ![1, 512, 128] inb).toLoadRect (ix3 (0 : Fin 1) r k) = slot x3 x4 x5 x6 s r k := by
  rw [View.readCov_eq_canon']
  refine (hL _).trans ?_
  have e0 : ((Rect.unit (s := S16x512x128) ![s, 0, 0] ![1, 512, 128] inb).toLoadRect.idx (ix3 (0 : Fin 1) r k) 0 : ℕ) = s := by simp [LoadRect.idx]
  have e1 : ((Rect.unit (s := S16x512x128) ![s, 0, 0] ![1, 512, 128] inb).toLoadRect.idx (ix3 (0 : Fin 1) r k) 1 : ℕ) = r := by simp [LoadRect.idx]
  have e2 : ((Rect.unit (s := S16x512x128) ![s, 0, 0] ![1, 512, 128] inb).toLoadRect.idx (ix3 (0 : Fin 1) r k) 2 : ℕ) = k := by simp [LoadRect.idx]
  unfold slots
  rw [e0, e1, e2]

/-- The merged attention of a block. -/
def att (x1 x2 : FVec Ideal S1x512x512 .f32) (x3 x4 : FVec Ideal S4x128x512 .f32) (x5 x6 : FVec Ideal S16x32x512 .f32) : FVec Ideal S512x512 .bf16 :=
  fun i => mix (rd x2 0 (i 0) (i 1)) (rd x4 ((i 0 : ℕ) % 4) ((i 0 : ℕ) / 4) (i 1)) (rd x6 ((i 0 : ℕ) % 16) ((i 0 : ℕ) / 16) (i 1))
    (rd x1 0 (i 0) (i 1)) (rd x3 ((i 0 : ℕ) % 4) ((i 0 : ℕ) / 4) (i 1)) (rd x5 ((i 0 : ℕ) % 16) ((i 0 : ℕ) / 16) (i 1))

theorem mix164 (a0 a1 a2 a3 a4 a5 : FVec Ideal S1x512x128 .f32) (r : Fin 512) (k : Fin 128) :
    k0_pay164 (F := Ideal) a0 a1 a2 a3 a4 a5 (ix2 r k)
      = mix (a1 (ix3 0 r k)) (a3 (ix3 0 r k)) (a5 (ix3 0 r k)) (a0 (ix3 0 r k)) (a2 (ix3 0 r k)) (a4 (ix3 0 r k)) := by
  pointwise [k0_pay164, mix]

theorem same166 (a0 a1 a2 a3 a4 a5 : FVec Ideal S1x512x128 .f32) : k0_pay166 (F := Ideal) (k0_pay165 a0) a1 a2 a3 a4 a5 = k0_pay164 a0 a1 a2 a3 a4 a5 := rfl
theorem same169 (a0 a1 a2 a3 a4 a5 : FVec Ideal S1x512x128 .f32) : k0_pay169 (F := Ideal) (k0_pay167 a0) (k0_pay168 a1) a2 a3 a4 a5 = k0_pay164 a0 a1 a2 a3 a4 a5 := rfl
theorem same175 (a0 a1 a2 a3 a4 a5 : FVec Ideal S1x512x128 .f32) :
    k0_pay175 (F := Ideal) (k0_pay174 (k0_pay170 a0) (k0_pay171 a1) (k0_pay172 a2) (k0_pay173 a3) a4 a5) = k0_pay164 a0 a1 a2 a3 a4 a5 := rfl

/-- A lane block of the merge: the loads of both arrays of dilation 1 and of the four slots. -/
theorem lane (v16 : Memref sig .tc .vmem S16x512x128 .f32) (x1 x2 : FVec Ideal S1x512x512 .f32) (x3 x4 : FVec Ideal S4x128x512 .f32)
    (x5 x6 : FVec Ideal S16x32x512 .f32) (L : List (View.Piece (Elt Ideal) S16x512x128 .f32)) (hL : ∀ y, View.canon L y = slots x3 x4 x5 x6 y)
    (q s4 s8 s12 o : ℕ) (hq : q < 4) (h4 : s4 = q + 4) (h8 : s8 = q + 8) (h12 : s12 = q + 12) (ho : o = 128 * q) (i1 i2 i3 i4 i5 i6)
    (r : Fin 512) (k : Fin 128) (c : Fin 512) (hc : (c : ℕ) = o + k) :
    k0_pay164 (F := Ideal) (View.ld (Val := Elt Ideal) (S := S1x512x512) (e' := .f32) x1 (Rect.unit ![0, 0, o] ![1, 512, 128] i1))
        (View.ld (Val := Elt Ideal) (S := S1x512x512) (e' := .f32) x2 (Rect.unit ![0, 0, o] ![1, 512, 128] i2))
        (v16.view.readCov L (Rect.unit (s := S16x512x128) ![q, 0, 0] ![1, 512, 128] i3).toLoadRect) (v16.view.readCov L (Rect.unit (s := S16x512x128) ![s4, 0, 0] ![1, 512, 128] i4).toLoadRect)
        (v16.view.readCov L (Rect.unit (s := S16x512x128) ![s8, 0, 0] ![1, 512, 128] i5).toLoadRect) (v16.view.readCov L (Rect.unit (s := S16x512x128) ![s12, 0, 0] ![1, 512, 128] i6).toLoadRect)
        (ix2 r k) = att x1 x2 x3 x4 x5 x6 (ix2 r c) := by
  subst h4 h8 h12 ho
  refine (mix164 _ _ _ _ _ _ r k).trans ?_
  rw [read_slot v16 x3 x4 x5 x6 L hL, read_slot v16 x3 x4 x5 x6 L hL, read_slot v16 x3 x4 x5 x6 L hL, read_slot v16 x3 x4 x5 x6 L hL]
  rw [show View.ld (Val := Elt Ideal) (S := S1x512x512) (e' := .f32) x1 (Rect.unit ![0, 0, 128 * q] ![1, 512, 128] i1) (ix3 0 r k) = _ from ld3 x1 0 _ i1 r k,
    show View.ld (Val := Elt Ideal) (S := S1x512x512) (e' := .f32) x2 (Rect.unit ![0, 0, 128 * q] ![1, 512, 128] i2) (ix3 0 r k) = _ from ld3 x2 0 _ i2 r k]
  have e0 : slot x3 x4 x5 x6 q r k = rd x3 ((r : ℕ) % 4) ((r : ℕ) / 4) c := by
    unfold slot
    rw [if_pos (by omega), hc]
  have e4 : slot x3 x4 x5 x6 (q + 4) r k = rd x4 ((r : ℕ) % 4) ((r : ℕ) / 4) c := by
    unfold slot
    rw [if_neg (by omega), if_pos (by omega), hc, Nat.add_sub_cancel]
  have e8 : slot x3 x4 x5 x6 (q + 8) r k = rd x5 ((r : ℕ) % 16) ((r : ℕ) / 16) c := by
    unfold slot
    rw [if_neg (by omega), if_neg (by omega), if_pos (by omega), hc, Nat.add_sub_cancel]
  have e12 : slot x3 x4 x5 x6 (q + 12) r k = rd x6 ((r : ℕ) % 16) ((r : ℕ) / 16) c := by
    unfold slot
    rw [if_neg (by omega), if_neg (by omega), if_neg (by omega), hc, Nat.add_sub_cancel]
  rw [e0, e4, e8, e12, ← hc]
  rfl

/-- The four lane blocks' stores, last first. -/
def cols (v16 : Memref sig .tc .vmem S16x512x128 .f32) (x1 x2 : FVec Ideal S1x512x512 .f32) (L : List (View.Piece (Elt Ideal) S16x512x128 .f32)) :
    List (View.Piece (Elt Ideal) S512x512 .bf16) :=
  [
   ⟨Rect.unit ![0, 384] ![512, 128] inb_S512x512_S512x128_0_384,
      k0_pay175 (k0_pay174 (k0_pay170 (View.ld (Val := Elt Ideal) (S := S1x512x512) (e' := .f32) x1 (Rect.unit ![0, 0, 384] ![1, 512, 128] inb_S1x512x512_S1x512x128_0_0_384))) (k0_pay171 (View.ld (Val := Elt Ideal) (S := S1x512x512) (e' := .f32) x2 (Rect.unit ![0, 0, 384] ![1, 512, 128] inb_S1x512x512_S1x512x128_0_0_384))) (k0_pay172 (v16.view.readCov L (Rect.unit (s := S16x512x128) ![3, 0, 0] ![1, 512, 128] inb_S16x512x128_S1x512x128_3_0_0).toLoadRect)) (k0_pay173 (v16.view.readCov L (Rect.unit (s := S16x512x128) ![7, 0, 0] ![1, 512, 128] inb_S16x512x128_S1x512x128_7_0_0).toLoadRect))
        (v16.view.readCov L (Rect.unit (s := S16x512x128) ![11, 0, 0] ![1, 512, 128] inb_S16x512x128_S1x512x128_11_0_0).toLoadRect) (v16.view.readCov L (Rect.unit (s := S16x512x128) ![15, 0, 0] ![1, 512, 128] inb_S16x512x128_S1x512x128_15_0_0).toLoadRect))⟩,
   ⟨Rect.unit ![0, 256] ![512, 128] inb_S512x512_S512x128_0_256,
      k0_pay169 (k0_pay167 (View.ld (Val := Elt Ideal) (S := S1x512x512) (e' := .f32) x1 (Rect.unit ![0, 0, 256] ![1, 512, 128] inb_S1x512x512_S1x512x128_0_0_256))) (k0_pay168 (View.ld (Val := Elt Ideal) (S := S1x512x512) (e' := .f32) x2 (Rect.unit ![0, 0, 256] ![1, 512, 128] inb_S1x512x512_S1x512x128_0_0_256))) (v16.view.readCov L (Rect.unit (s := S16x512x128) ![2, 0, 0] ![1, 512, 128] inb_S16x512x128_S1x512x128_2_0_0).toLoadRect)
        (v16.view.readCov L (Rect.unit (s := S16x512x128) ![6, 0, 0] ![1, 512, 128] inb_S16x512x128_S1x512x128_6_0_0).toLoadRect) (v16.view.readCov L (Rect.unit (s := S16x512x128) ![10, 0, 0] ![1, 512, 128] inb_S16x512x128_S1x512x128_10_0_0).toLoadRect) (v16.view.readCov L (Rect.unit (s := S16x512x128) ![14, 0, 0] ![1, 512, 128] inb_S16x512x128_S1x512x128_14_0_0).toLoadRect)⟩,
   ⟨Rect.unit ![0, 128] ![512, 128] inb_S512x512_S512x128_0_128,
      k0_pay166 (k0_pay165 (View.ld (Val := Elt Ideal) (S := S1x512x512) (e' := .f32) x1 (Rect.unit ![0, 0, 128] ![1, 512, 128] inb_S1x512x512_S1x512x128_0_0_128))) (View.ld (Val := Elt Ideal) (S := S1x512x512) (e' := .f32) x2 (Rect.unit ![0, 0, 128] ![1, 512, 128] inb_S1x512x512_S1x512x128_0_0_128)) (v16.view.readCov L (Rect.unit (s := S16x512x128) ![1, 0, 0] ![1, 512, 128] inb_S16x512x128_S1x512x128_1_0_0).toLoadRect)
        (v16.view.readCov L (Rect.unit (s := S16x512x128) ![5, 0, 0] ![1, 512, 128] inb_S16x512x128_S1x512x128_5_0_0).toLoadRect) (v16.view.readCov L (Rect.unit (s := S16x512x128) ![9, 0, 0] ![1, 512, 128] inb_S16x512x128_S1x512x128_9_0_0).toLoadRect) (v16.view.readCov L (Rect.unit (s := S16x512x128) ![13, 0, 0] ![1, 512, 128] inb_S16x512x128_S1x512x128_13_0_0).toLoadRect)⟩,
   ⟨Rect.unit ![0, 0] ![512, 128] inb_S512x512_S512x128_0_0,
      k0_pay164 (View.ld (Val := Elt Ideal) (S := S1x512x512) (e' := .f32) x1 (Rect.unit ![0, 0, 0] ![1, 512, 128] inb_S1x512x512_S1x512x128_0_0_0)) (View.ld (Val := Elt Ideal) (S := S1x512x512) (e' := .f32) x2 (Rect.unit ![0, 0, 0] ![1, 512, 128] inb_S1x512x512_S1x512x128_0_0_0)) (v16.view.readCov L (Rect.unit (s := S16x512x128) ![0, 0, 0] ![1, 512, 128] inb_S16x512x128_S1x512x128_0_0_0).toLoadRect)
        (v16.view.readCov L (Rect.unit (s := S16x512x128) ![4, 0, 0] ![1, 512, 128] inb_S16x512x128_S1x512x128_4_0_0).toLoadRect) (v16.view.readCov L (Rect.unit (s := S16x512x128) ![8, 0, 0] ![1, 512, 128] inb_S16x512x128_S1x512x128_8_0_0).toLoadRect) (v16.view.readCov L (Rect.unit (s := S16x512x128) ![12, 0, 0] ![1, 512, 128] inb_S16x512x128_S1x512x128_12_0_0).toLoadRect)⟩]

/-- Four lane blocks of one array, stored each in its columns. -/
theorem canon4 (f : FVec Ideal S512x512 .bf16) (p0 p1 p2 p3 : FVec Ideal S512x128 .bf16)
    (q0 : ∀ (r : Fin 512) (k : Fin 128) (c : Fin 512), (c : ℕ) = 0 + k → p0 (ix2 r k) = f (ix2 r c))
    (q1 : ∀ (r : Fin 512) (k : Fin 128) (c : Fin 512), (c : ℕ) = 128 + k → p1 (ix2 r k) = f (ix2 r c))
    (q2 : ∀ (r : Fin 512) (k : Fin 128) (c : Fin 512), (c : ℕ) = 256 + k → p2 (ix2 r k) = f (ix2 r c))
    (q3 : ∀ (r : Fin 512) (k : Fin 128) (c : Fin 512), (c : ℕ) = 384 + k → p3 (ix2 r k) = f (ix2 r c))
    (r : Fin 512) (c : Fin 512) :
    View.canon (Val := Elt Ideal) (s := S512x512) (e := .bf16)
      [⟨Rect.unit ![0, 384] ![512, 128] inb_S512x512_S512x128_0_384, p3⟩, ⟨Rect.unit ![0, 256] ![512, 128] inb_S512x512_S512x128_0_256, p2⟩,
       ⟨Rect.unit ![0, 128] ![512, 128] inb_S512x512_S512x128_0_128, p1⟩, ⟨Rect.unit ![0, 0] ![512, 128] inb_S512x512_S512x128_0_0, p0⟩] (ix2 r c)
      = f (ix2 r c) := by
  canon_tiles w h
  all_goals idx_vars w
  all_goals obtain rfl : r = w0 := Fin.ext (by omega)
  all_goals first
    | exact q3 _ _ _ (by omega)
    | exact q2 _ _ _ (by omega)
    | exact q1 _ _ _ (by omega)
    | exact q0 _ _ _ (by omega)

theorem canon_cols (v16 : Memref sig .tc .vmem S16x512x128 .f32) (x1 x2 : FVec Ideal S1x512x512 .f32) (x3 x4 : FVec Ideal S4x128x512 .f32)
    (x5 x6 : FVec Ideal S16x32x512 .f32) (L : List (View.Piece (Elt Ideal) S16x512x128 .f32)) (hL : ∀ y, View.canon L y = slots x3 x4 x5 x6 y)
    (r : Fin 512) (c : Fin 512) : View.canon (cols v16 x1 x2 L) (ix2 r c) = att x1 x2 x3 x4 x5 x6 (ix2 r c) := by
  refine canon4 (att x1 x2 x3 x4 x5 x6) _ _ _ _ (fun r k c hc => ?_) (fun r k c hc => ?_) (fun r k c hc => ?_) (fun r k c hc => ?_) r c
  · exact lane v16 x1 x2 x3 x4 x5 x6 L hL 0 _ _ _ _ (by decide) rfl rfl rfl rfl _ _ _ _ _ _ r k c hc
  · exact (congrFun (same166 _ _ _ _ _ _) _).trans (lane v16 x1 x2 x3 x4 x5 x6 L hL 1 _ _ _ _ (by decide) rfl rfl rfl rfl _ _ _ _ _ _ r k c hc)
  · exact (congrFun (same169 _ _ _ _ _ _) _).trans (lane v16 x1 x2 x3 x4 x5 x6 L hL 2 _ _ _ _ (by decide) rfl rfl rfl rfl _ _ _ _ _ _ r k c hc)
  · exact (congrFun (same175 _ _ _ _ _ _) _).trans (lane v16 x1 x2 x3 x4 x5 x6 L hL 3 _ _ _ _ (by decide) rfl rfl rfl rfl _ _ _ _ _ _ r k c hc)

theorem stage_cols (v15 : Memref sig .tc .vmem S512x512 .bf16) (v16 : Memref sig .tc .vmem S16x512x128 .f32) (x1 x2 : FVec Ideal S1x512x512 .f32)
    (x3 x4 : FVec Ideal S4x128x512 .f32) (x5 x6 : FVec Ideal S16x32x512 .f32) (L : List (View.Piece (Elt Ideal) S16x512x128 .f32))
    (hL : ∀ y, View.canon L y = slots x3 x4 x5 x6 y) :
    v15.view.readCov (cols v16 x1 x2 L) (Rect.unit (s := S512x512) ![0, 0] ![512, 512] inb_S512x512_S512x512_0_0).toLoadRect = att x1 x2 x3 x4 x5 x6 := by
  rw [View.readCov_eq_canon']
  funext z
  idx_vars z
  have e : (Rect.unit (s := S512x512) ![0, 0] ![512, 512] inb_S512x512_S512x512_0_0).toLoadRect.idx (ix2 z0 z1) = ix2 z0 z1 := by
    funext a
    match a with
    | ⟨0, _⟩ => exact Fin.ext (by simp [LoadRect.idx])
    | ⟨1, _⟩ => exact Fin.ext (by simp [LoadRect.idx])
  exact (congrArg (View.canon (cols v16 x1 x2 L)) e).trans (canon_cols v16 x1 x2 x3 x4 x5 x6 L hL z0 z1)

theorem same179 (x : FVec Ideal S512x1024 .f32) (a : FVec Ideal S512x512 .bf16) (Wo : FVec Ideal S512x1024 .bf16)
    (g : FVec Ideal S1x1024 .f32) (u v : FVec Ideal S1024x256 .bf16) :
    k0_pay179 (F := Ideal) x a Wo g u v = k0_pay183 (k0_pay178 x a Wo g) u v := rfl

theorem block (x : FVec Ideal S512x1024 .f32) (a : FVec Ideal S512x512 .bf16) (Wo : FVec Ideal S512x1024 .bf16)
    (g : FVec Ideal S1x1024 .f32) (Wg : FVec Ideal S1024x5632 .bf16) (Wd : FVec Ideal S2816x1024 .bf16) (r : Fin 512) (c : Fin 1024) :
    k0_pay3 (F := Ideal) (k0_pay177 x a Wo) (actM (k0_pay178 x a Wo g) Wg) Wd (ix2 r c)
      = ffn (fun c => x (ix2 r c) + ∑ k : Fin 512, a (ix2 r k) * Wo (ix2 k c)) (fun i => g (ix2 (0 : Fin 1) (i 0))) Wg Wd c := by
  pointwise [k0_pay3, k0_pay177, k0_pay178, actM, act, ffn, normed]
  simp only [Ideal.logistic]

set_option maxHeartbeats 8000000 in
theorem runA (c : Dev nD) (i : grid0.Coords) (arg1 : Memref sig .tc .vmem S512x1024 .f32) (harg1 : arg1.IsWhole) (arg2 : Memref sig .tc .vmem S1x512x512 .f32) (harg2 : arg2.IsWhole) (arg3 : Memref sig .tc .vmem S1x512x512 .f32) (harg3 : arg3.IsWhole) (arg4 : Memref sig .tc .vmem S4x128x512 .f32) (harg4 : arg4.IsWhole) (arg5 : Memref sig .tc .vmem S4x128x512 .f32) (harg5 : arg5.IsWhole) (arg6 : Memref sig .tc .vmem S16x32x512 .f32) (harg6 : arg6.IsWhole) (arg7 : Memref sig .tc .vmem S16x32x512 .f32) (harg7 : arg7.IsWhole) (arg8 : Memref sig .tc .vmem S512x512 .f32) (harg8 : arg8.IsWhole) (arg9 : Memref sig .tc .vmem S512x1024 .bf16) (harg9 : arg9.IsWhole) (arg10 : Memref sig .tc .vmem S1x1024 .f32) (harg10 : arg10.IsWhole) (arg11 : Memref sig .tc .vmem S1024x5632 .bf16) (harg11 : arg11.IsWhole) (arg12 : Memref sig .tc .vmem S2816x1024 .bf16) (harg12 : arg12.IsWhole) (arg13 : Memref sig .tc .vmem S512x1024 .f32) (harg13 : arg13.IsWhole) (arg14 : Memref sig .tc .vmem S512x2816 .bf16) (harg14 : arg14.IsWhole) (arg15 : Memref sig .tc .vmem S512x512 .bf16) (harg15 : arg15.IsWhole) (arg16 : Memref sig .tc .vmem S16x512x128 .f32) (harg16 : arg16.IsWhole) (hc0 : cond0_0 i) (hc1 : ¬cond0_1 i)
    (x0 : Vec Ideal S512x1024 .f32) (x1 : Vec Ideal S1x512x512 .f32) (x2 : Vec Ideal S1x512x512 .f32) (x3 : Vec Ideal S4x128x512 .f32) (x4 : Vec Ideal S4x128x512 .f32) (x5 : Vec Ideal S16x32x512 .f32) (x6 : Vec Ideal S16x32x512 .f32) (x7 : Vec Ideal S512x512 .f32) (x8 : Vec Ideal S512x1024 .bf16) (x9 : Vec Ideal S1x1024 .f32) (x10 : Vec Ideal S1024x5632 .bf16) (x11 : Vec Ideal S2816x1024 .bf16) :
    out0_A_12 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7 x8 x9 x10 x11
      = k0_pay3 (F := Ideal) (k0_pay177 x0 (att x1 x2 x3 x4 x5 x6) x8) (actM (k0_pay178 x0 (att x1 x2 x3 x4 x5 x6) x8 x9) x10) x11 := by
  frame_out
  rw [same179]
  have key : ∀ L : List (View.Piece (Elt Ideal) S16x512x128 .f32), View.PiecesOf (slots x3 x4 x5 x6) L → full L = true →
      k0_pay3 (F := Ideal) (k0_pay177 x0 (arg15.view.readCov (cols arg16 x1 x2 L) (Rect.unit (s := S512x512) ![0, 0] ![512, 512] inb_S512x512_S512x512_0_0).toLoadRect) x8)
        (arg14.view.readCov (Cert.Kernel2Ideal.Mine.stores (k0_pay178 x0 (arg15.view.readCov (cols arg16 x1 x2 L) (Rect.unit (s := S512x512) ![0, 0] ![512, 512] inb_S512x512_S512x512_0_0).toLoadRect) x8 x9) x10)
          (Rect.unit (s := S512x2816) ![0, 0] ![512, 2816] inb_S512x2816_S512x2816_0_0).toLoadRect) x11
        = k0_pay3 (F := Ideal) (k0_pay177 x0 (att x1 x2 x3 x4 x5 x6) x8) (actM (k0_pay178 x0 (att x1 x2 x3 x4 x5 x6) x8 x9) x10) x11 := by
    intro L hP hC
    rw [stage_cols arg15 arg16 x1 x2 x3 x4 x5 x6 L (canon_slots x3 x4 x5 x6 L hP hC)]
    exact congrArg (fun z => k0_pay3 (F := Ideal) _ z _) (stage arg14.view _ x10)
  refine key _ ?_ ?_
  · repeat
      refine ⟨?_, ?_⟩
      · first
        | exact piece_o4 x3 x4 x5 x6 _ _ _ (by decide) _ _ _ _ _
        | exact piece_l4 x3 x4 x5 x6 _ _ _ (by decide) _ _ _ _ _
        | exact piece_o16 x3 x4 x5 x6 _ _ _ (by decide) _ _ _ _ _
        | exact piece_l16 x3 x4 x5 x6 _ _ _ (by decide) _ _ _ _ _
    exact trivial
  · sl_kernel_rfl

set_option maxHeartbeats 8000000 in
theorem runB (c : Dev nD) (i : grid0.Coords) (arg1 : Memref sig .tc .vmem S512x1024 .f32) (harg1 : arg1.IsWhole) (arg2 : Memref sig .tc .vmem S1x512x512 .f32) (harg2 : arg2.IsWhole) (arg3 : Memref sig .tc .vmem S1x512x512 .f32) (harg3 : arg3.IsWhole) (arg4 : Memref sig .tc .vmem S4x128x512 .f32) (harg4 : arg4.IsWhole) (arg5 : Memref sig .tc .vmem S4x128x512 .f32) (harg5 : arg5.IsWhole) (arg6 : Memref sig .tc .vmem S16x32x512 .f32) (harg6 : arg6.IsWhole) (arg7 : Memref sig .tc .vmem S16x32x512 .f32) (harg7 : arg7.IsWhole) (arg8 : Memref sig .tc .vmem S512x512 .f32) (harg8 : arg8.IsWhole) (arg9 : Memref sig .tc .vmem S512x1024 .bf16) (harg9 : arg9.IsWhole) (arg10 : Memref sig .tc .vmem S1x1024 .f32) (harg10 : arg10.IsWhole) (arg11 : Memref sig .tc .vmem S1024x5632 .bf16) (harg11 : arg11.IsWhole) (arg12 : Memref sig .tc .vmem S2816x1024 .bf16) (harg12 : arg12.IsWhole) (arg13 : Memref sig .tc .vmem S512x1024 .f32) (harg13 : arg13.IsWhole) (arg14 : Memref sig .tc .vmem S512x2816 .bf16) (harg14 : arg14.IsWhole) (arg15 : Memref sig .tc .vmem S512x512 .bf16) (harg15 : arg15.IsWhole) (arg16 : Memref sig .tc .vmem S16x512x128 .f32) (harg16 : arg16.IsWhole) (hc0 : ¬cond0_0 i) (hc1 : cond0_1 i)
    (x0 : Vec Ideal S512x1024 .f32) (x1 : Vec Ideal S1x512x512 .f32) (x2 : Vec Ideal S1x512x512 .f32) (x3 : Vec Ideal S4x128x512 .f32) (x4 : Vec Ideal S4x128x512 .f32) (x5 : Vec Ideal S16x32x512 .f32) (x6 : Vec Ideal S16x32x512 .f32) (x7 : Vec Ideal S512x512 .f32) (x8 : Vec Ideal S512x1024 .bf16) (x9 : Vec Ideal S1x1024 .f32) (x10 : Vec Ideal S1024x5632 .bf16) (x11 : Vec Ideal S2816x1024 .bf16) :
    out0_B_12 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7 x8 x9 x10 x11
      = k0_pay3 (F := Ideal) (k0_pay177 x0 (k0_pay176 x7) x8) (actM (k0_pay178 x0 (k0_pay176 x7) x8 x9) x10) x11 := by
  frame_out
  rw [same179]
  exact congrArg (fun z => k0_pay3 (F := Ideal) _ z _) (stage arg14.view _ x10)

end Cert.Kernel4Ideal.Mine
end
-- ==== Proof.Layer.lean ====
/- The blocks each grid point reads and the array the merge call leaves. -/
module

public import proofs.«01_k».proof.Proof.Merge

@[expose] public section

set_option maxRecDepth 16384

noncomputable section

open Idealize.ShloMosaic Idealize.ShloMosaic.TcCoe Idealize.SL.Sem
open Idealize.ShloMosaic.Pipeline (Dat)

namespace Cert.Kernel4Ideal.Mine

open Cert.Kernel4Ideal Cert.Kernel4Ideal.Gen
open Cert.Kernel2Ideal.Mine (act actM stage ffn normed)
open Cert.Comb (mix joined Fine)

variable (m : (ℓ : Loc nD τ sig) → Buf (Elt Ideal) ℓ)

theorem outA (c : Dev nD) (t : Fin cfg0.N) (h0 : t.val < 32) (h1 : ¬32 ≤ t.val) :
    outsAt0 m c t.val t.isLt = k0_pay3 (F := Ideal)
      (k0_pay177 (iblk m c 0 t) (att (iblk m c 1 t) (iblk m c 2 t) (iblk m c 3 t) (iblk m c 4 t) (iblk m c 5 t) (iblk m c 6 t)) (iblk m c 8 t))
      (actM (k0_pay178 (iblk m c 0 t) (att (iblk m c 1 t) (iblk m c 2 t) (iblk m c 3 t) (iblk m c 4 t) (iblk m c 5 t) (iblk m c 6 t)) (iblk m c 8 t) (iblk m c 9 t))
        (iblk m c 10 t)) (iblk m c 11 t) := by
  rw [outsAt0_A m c t h0 h1, runA]

theorem outB (c : Dev nD) (t : Fin cfg0.N) (h0 : ¬t.val < 32) (h1 : 32 ≤ t.val) :
    outsAt0 m c t.val t.isLt = k0_pay3 (F := Ideal) (k0_pay177 (iblk m c 0 t) (k0_pay176 (iblk m c 7 t)) (iblk m c 8 t))
      (actM (k0_pay178 (iblk m c 0 t) (k0_pay176 (iblk m c 7 t)) (iblk m c 8 t) (iblk m c 9 t)) (iblk m c 10 t)) (iblk m c 11 t) := by
  rw [outsAt0_B m c t h0 h1, runB]

theorem idx : ∀ t : Fin cfg0.N,
    win0_0.index t = ![t.val, 0] ∧ win0_8.index t = ![0, 0] ∧ win0_9.index t = ![0, 0] ∧ win0_10.index t = ![0, 0]
      ∧ win0_11.index t = ![0, 0] ∧ win0_12.index t = ![t.val, 0] :=
  (by decide +kernel : ∀ t : Fin grid0.N, _)

theorem idxP : ∀ t : Fin cfg0.N, t.val < 32 → win0_1.index t = ![0, t.val, 0] ∧ win0_2.index t = ![0, t.val, 0] ∧ win0_3.index t = ![0, t.val, 0]
    ∧ win0_4.index t = ![0, t.val, 0] ∧ win0_5.index t = ![0, t.val, 0] ∧ win0_6.index t = ![0, t.val, 0] :=
  (by decide +kernel : ∀ t : Fin grid0.N, _)

theorem idxS : ∀ t : Fin cfg0.N, ¬ t.val < 32 → win0_7.index t = ![t.val - 32, 0] :=
  (by decide +kernel : ∀ t : Fin grid0.N, _)

theorem read0 (c : Dev nD) (t : Fin cfg0.N) (r : Fin 512) (R : Fin 17408) (h : (R : ℕ) = 512 * t.val + r) (k : Fin 1024) :
    iblk m c 0 t (ix2 r k) = m ((c : Thread nD τ).loc main_arg0) (ix2 R k) := by
  blk_point [iblk, V, idx t]

theorem read1 (c : Dev nD) (t : Fin cfg0.N) (ht : t.val < 32) (q : Fin 1) (r : Fin 512) (R : Fin 16384) (h : (R : ℕ) = 512 * t.val + r) (k : Fin 512) :
    iblk m c 1 t (ix3 q r k) = m ((c : Thread nD τ).loc main_arg5) (ix3 q R k) := by
  blk_ext [iblk, V, idxP t ht]

theorem read2 (c : Dev nD) (t : Fin cfg0.N) (ht : t.val < 32) (q : Fin 1) (r : Fin 512) (R : Fin 16384) (h : (R : ℕ) = 512 * t.val + r) (k : Fin 512) :
    iblk m c 2 t (ix3 q r k) = m ((c : Thread nD τ).loc main_arg6) (ix3 q R k) := by
  blk_ext [iblk, V, idxP t ht]

theorem read3 (c : Dev nD) (t : Fin cfg0.N) (ht : t.val < 32) (q : Fin 4) (r : Fin 128) (R : Fin 4096) (h : (R : ℕ) = 128 * t.val + r) (k : Fin 512) :
    iblk m c 3 t (ix3 q r k) = m ((c : Thread nD τ).loc main_arg7) (ix3 q R k) := by
  blk_ext [iblk, V, idxP t ht]

theorem read4 (c : Dev nD) (t : Fin cfg0.N) (ht : t.val < 32) (q : Fin 4) (r : Fin 128) (R : Fin 4096) (h : (R : ℕ) = 128 * t.val + r) (k : Fin 512) :
    iblk m c 4 t (ix3 q r k) = m ((c : Thread nD τ).loc main_arg8) (ix3 q R k) := by
  blk_ext [iblk, V, idxP t ht]

theorem read5 (c : Dev nD) (t : Fin cfg0.N) (ht : t.val < 32) (q : Fin 16) (r : Fin 32) (R : Fin 1024) (h : (R : ℕ) = 32 * t.val + r) (k : Fin 512) :
    iblk m c 5 t (ix3 q r k) = m ((c : Thread nD τ).loc main_arg9) (ix3 q R k) := by
  blk_ext [iblk, V, idxP t ht]

theorem read6 (c : Dev nD) (t : Fin cfg0.N) (ht : t.val < 32) (q : Fin 16) (r : Fin 32) (R : Fin 1024) (h : (R : ℕ) = 32 * t.val + r) (k : Fin 512) :
    iblk m c 6 t (ix3 q r k) = m ((c : Thread nD τ).loc main_arg10) (ix3 q R k) := by
  blk_ext [iblk, V, idxP t ht]

theorem read7 (c : Dev nD) (t : Fin cfg0.N) (ht : ¬ t.val < 32) (r : Fin 512) (R : Fin 1024) (h : (R : ℕ) + 16384 = 512 * t.val + r) (k : Fin 512) :
    iblk m c 7 t (ix2 r k) = m ((c : Thread nD τ).loc main_arg11) (ix2 R k) := by
  blk_ext [iblk, V, idxS t ht]

theorem read8 (c : Dev nD) (t : Fin cfg0.N) : iblk m c 8 t = m ((c : Thread nD τ).loc main_arg1) := by
  blk_ext! [iblk, V, idx t]

theorem read9 (c : Dev nD) (t : Fin cfg0.N) (k : Fin 1024) :
    iblk m c 9 t (ix2 (0 : Fin 1) k) = m ((c : Thread nD τ).loc main_arg2) (ix1 k) := by
  blk_point [iblk, V, idx t]

theorem read10 (c : Dev nD) (t : Fin cfg0.N) : iblk m c 10 t = m ((c : Thread nD τ).loc main_arg3) := by
  blk_ext! [iblk, V, idx t]

theorem read11 (c : Dev nD) (t : Fin cfg0.N) : iblk m c 11 t = m ((c : Thread nD τ).loc main_arg4) := by
  blk_ext! [iblk, V, idx t]

/-- The reference's result at the memory of a device. -/
def goal (c : Dev nD) : FVec Ideal S17408x1024 .f32 :=
  Cert.Reference4Ideal.Read.val_main_v58 (F := Ideal) (m ((c : Thread nD τ).loc main_arg0)) (m ((c : Thread nD τ).loc main_arg1))
    (m ((c : Thread nD τ).loc main_arg2)) (m ((c : Thread nD τ).loc main_arg3)) (m ((c : Thread nD τ).loc main_arg4))
    (m ((c : Thread nD τ).loc main_arg5)) (m ((c : Thread nD τ).loc main_arg6)) (m ((c : Thread nD τ).loc main_arg7))
    (m ((c : Thread nD τ).loc main_arg8)) (m ((c : Thread nD τ).loc main_arg9)) (m ((c : Thread nD τ).loc main_arg10))
    (m ((c : Thread nD τ).loc main_arg11))

/-- A block row of the network, from the reads of the row and of the attention's row. -/
theorem row (x : FVec Ideal S512x1024 .f32) (a : FVec Ideal S512x512 .bf16) (Wo Wo' : FVec Ideal S512x1024 .bf16)
    (g : FVec Ideal S1x1024 .f32) (Wg Wg' : FVec Ideal S1024x5632 .bf16) (Wd Wd' : FVec Ideal S2816x1024 .bf16) (r : Fin 512) (c : Fin 1024)
    (X : FVec Ideal S17408x1024 .f32) (G : FVec Ideal S1024 .f32) (o1 l1 : FVec Ideal S1x16384x512 .f32) (o4 l4 : FVec Ideal S4x4096x512 .f32)
    (o16 l16 : FVec Ideal S16x1024x512 .f32) (os : FVec Ideal S1024x512 .f32) (hf : Fine l1 l4 l16) (R : Fin 17408)
    (hx : ∀ k : Fin 1024, x (ix2 r k) = X (ix2 R k)) (ha : ∀ k : Fin 512, a (ix2 r k) = joined o1 l1 o4 l4 o16 l16 os R k)
    (hg : ∀ k : Fin 1024, g (ix2 (0 : Fin 1) k) = G (ix1 k)) (ho : Wo = Wo') (hwg : Wg = Wg') (hwd : Wd = Wd') :
    k0_pay3 (F := Ideal) (k0_pay177 x a Wo) (actM (k0_pay178 x a Wo g) Wg) Wd (ix2 r c)
      = Cert.Reference4Ideal.Read.val_main_v58 (F := Ideal) X Wo' G Wg' Wd' o1 l1 o4 l4 o16 l16 os (ix2 R c) := by
  subst ho hwg hwd
  rw [block, Cert.Comb.ref58 X Wo G Wg Wd o1 l1 o4 l4 o16 l16 os hf]
  have e1 : (fun c : Fin 1024 => x (ix2 r c) + ∑ k : Fin 512, a (ix2 r k) * Wo (ix2 k c))
      = fun c => X (ix2 R c) + ∑ k : Fin 512, joined o1 l1 o4 l4 o16 l16 os R k * Wo (ix2 k c) := by
    funext c
    simp only [hx, ha]
  have e2 : (fun i => g (ix2 (0 : Fin 1) (i 0))) = G := by
    funext i
    idx_vars i
    exact hg i0
  rw [e1, e2]

/-- A row of the merged attention, from the reads of the six blocks. -/
theorem att_row (x1 x2 : FVec Ideal S1x512x512 .f32) (x3 x4 : FVec Ideal S4x128x512 .f32) (x5 x6 : FVec Ideal S16x32x512 .f32)
    (o1 l1 : FVec Ideal S1x16384x512 .f32) (o4 l4 : FVec Ideal S4x4096x512 .f32) (o16 l16 : FVec Ideal S16x1024x512 .f32)
    (os : FVec Ideal S1024x512 .f32) (t : ℕ) (ht : t < 32)
    (h1 : ∀ (q : Fin 1) (r : Fin 512) (R : Fin 16384) (h : (R : ℕ) = 512 * t + r) (k : Fin 512), x1 (ix3 q r k) = o1 (ix3 q R k))
    (h2 : ∀ (q : Fin 1) (r : Fin 512) (R : Fin 16384) (h : (R : ℕ) = 512 * t + r) (k : Fin 512), x2 (ix3 q r k) = l1 (ix3 q R k))
    (h3 : ∀ (q : Fin 4) (r : Fin 128) (R : Fin 4096) (h : (R : ℕ) = 128 * t + r) (k : Fin 512), x3 (ix3 q r k) = o4 (ix3 q R k))
    (h4 : ∀ (q : Fin 4) (r : Fin 128) (R : Fin 4096) (h : (R : ℕ) = 128 * t + r) (k : Fin 512), x4 (ix3 q r k) = l4 (ix3 q R k))
    (h5 : ∀ (q : Fin 16) (r : Fin 32) (R : Fin 1024) (h : (R : ℕ) = 32 * t + r) (k : Fin 512), x5 (ix3 q r k) = o16 (ix3 q R k))
    (h6 : ∀ (q : Fin 16) (r : Fin 32) (R : Fin 1024) (h : (R : ℕ) = 32 * t + r) (k : Fin 512), x6 (ix3 q r k) = l16 (ix3 q R k))
    (r : Fin 512) (R : Fin 17408) (hR : (R : ℕ) = 512 * t + r) (k : Fin 512) :
    att x1 x2 x3 x4 x5 x6 (ix2 r k) = joined o1 l1 o4 l4 o16 l16 os R k := by
  have hr : (r : ℕ) < 512 := r.isLt
  have e1 : ∀ x : FVec Ideal S1x512x512 .f32, rd x 0 r k = x (ix3 0 r k) := fun x => rd_eq x 0 r k
  have e4 : ∀ x : FVec Ideal S4x128x512 .f32, rd x ((r : ℕ) % 4) ((r : ℕ) / 4) k = x (ix3 ⟨(R : ℕ) % 4, by omega⟩ ⟨(r : ℕ) / 4, by omega⟩ k) := fun x => by
    refine Eq.trans ?_ (rd_eq x ⟨(R : ℕ) % 4, by omega⟩ ⟨(r : ℕ) / 4, by omega⟩ k)
    exact congrArg (fun c => rd x c ((r : ℕ) / 4) k) (show (r : ℕ) % 4 = (R : ℕ) % 4 by omega)
  have e16 : ∀ x : FVec Ideal S16x32x512 .f32, rd x ((r : ℕ) % 16) ((r : ℕ) / 16) k = x (ix3 ⟨(R : ℕ) % 16, by omega⟩ ⟨(r : ℕ) / 16, by omega⟩ k) := fun x => by
    refine Eq.trans ?_ (rd_eq x ⟨(R : ℕ) % 16, by omega⟩ ⟨(r : ℕ) / 16, by omega⟩ k)
    exact congrArg (fun c => rd x c ((r : ℕ) / 16) k) (show (r : ℕ) % 16 = (R : ℕ) % 16 by omega)
  have ea : att x1 x2 x3 x4 x5 x6 (ix2 r k) = mix (rd x2 0 r k) (rd x4 ((r : ℕ) % 4) ((r : ℕ) / 4) k) (rd x6 ((r : ℕ) % 16) ((r : ℕ) / 16) k)
    (rd x1 0 r k) (rd x3 ((r : ℕ) % 4) ((r : ℕ) / 4) k) (rd x5 ((r : ℕ) % 16) ((r : ℕ) / 16) k) := rfl
  rw [ea, e1, e1, e4, e4, e16, e16]
  unfold joined
  rw [dif_pos (show (R : ℕ) < 16384 by omega)]
  rw [h2 0 r ⟨R, by omega⟩ hR k, h1 0 r ⟨R, by omega⟩ hR k, h4 _ _ ⟨(R : ℕ) / 4, by omega⟩ (by simp only []; omega) k,
    h3 _ _ ⟨(R : ℕ) / 4, by omega⟩ (by simp only []; omega) k, h6 _ _ ⟨(R : ℕ) / 16, by omega⟩ (by simp only []; omega) k,
    h5 _ _ ⟨(R : ℕ) / 16, by omega⟩ (by simp only []; omega) k]

theorem final (c : Dev nD) (hf : Fine (m ((c : Thread nD τ).loc main_arg6)) (m ((c : Thread nD τ).loc main_arg8)) (m ((c : Thread nD τ).loc main_arg10))) :
    (dats m 0 c).arrAt 12 (cfgs 0).N = goal m c := by
  refine (dats m 0 c).arrAt_eq_of_covers 12 _ (by decide +kernel) fun t _ y => ?_
  blk_simp
  rw [after0_12]
  idx_vars y
  have ht : t.val < 34 := lt_of_lt_of_eq t.isLt N_0
  have he : ((cfg0.win 12).blk t).view.emb (ix2 y0 y1) = ix2 (⟨512 * t.val + y0, by omega⟩ : Fin 17408) y1 := by
    blk_ext [idx t]
  by_cases h0 : t.val < 32
  · rw [outA m c t h0 (by omega)]
    refine Eq.trans (row _ _ _ _ _ _ _ _ _ y0 y1 _ _ _ _ _ _ _ _ (m ((c : Thread nD τ).loc main_arg11)) hf ⟨512 * t.val + y0, by omega⟩
      (fun k => read0 m c t y0 _ rfl k)
      (fun k => att_row _ _ _ _ _ _ (m ((c : Thread nD τ).loc main_arg5)) _ (m ((c : Thread nD τ).loc main_arg7)) _ (m ((c : Thread nD τ).loc main_arg9)) _ _ t.val h0
        (read1 m c t h0) (read2 m c t h0) (read3 m c t h0) (read4 m c t h0) (read5 m c t h0) (read6 m c t h0) y0 _ rfl k)
      (fun k => read9 m c t k) (read8 m c t) (read10 m c t) (read11 m c t)) ?_
    rw [← he]
    rfl
  · rw [outB m c t h0 (by omega)]
    refine Eq.trans (row _ _ _ _ _ _ _ _ _ y0 y1 _ _ (m ((c : Thread nD τ).loc main_arg5)) _ (m ((c : Thread nD τ).loc main_arg7)) _ (m ((c : Thread nD τ).loc main_arg9)) _
      (m ((c : Thread nD τ).loc main_arg11)) hf ⟨512 * t.val + y0, by omega⟩
      (fun k => read0 m c t y0 _ rfl k) (fun k => ?_) (fun k => read9 m c t k) (read8 m c t) (read10 m c t) (read11 m c t)) ?_
    · unfold joined
      rw [dif_neg (by simp only []; omega)]
      refine Eq.trans ?_ (read7 m c t h0 y0 _ (by simp only []; omega) k)
      pointwise [k0_pay176]
    · rw [← he]
      rfl

end Cert.Kernel4Ideal.Mine
end
-- ==== Proof.lean ====
module

public import proofs.«01_k».proof.Defs
public import proofs.«01_k».proof.Proof.Gen.Kernel.Frame
public import proofs.«01_k».proof.Proof.Gen.KernelIdeal.Value
public import proofs.«01_k».proof.Proof.Gen.ReferenceIdeal.Run
public import proofs.«01_k».proof.Proof.Gen.ReferenceIdeal.Read
public import proofs.«01_k».proof.Proof.Gen.Kernel2.Frame
public import proofs.«01_k».proof.Proof.Gen.Kernel3.Frame
public import proofs.«01_k».proof.Proof.Gen.Reference2Ideal.Run
public import proofs.«01_k».proof.Proof.Gen.Reference3Ideal.Run
public import proofs.«01_k».proof.Proof.BandTop
public import proofs.«01_k».proof.Proof.Ref
public import proofs.«01_k».proof.Proof.Pre
public import proofs.«01_k».proof.Proof.Post
public import proofs.«01_k».proof.Proof.Rms
public import proofs.«01_k».proof.Proof.Gen.Kernel4Ideal.Value
public import proofs.«01_k».proof.Proof.Gen.Kernel4.Frame
public import proofs.«01_k».proof.Proof.Gen.Reference4Ideal.Run
public import proofs.«01_k».proof.Proof.Gen.Reference4Ideal.Read
public import proofs.«01_k».proof.Proof.Pre4
public import proofs.«01_k».proof.Proof.Layer
public import Idealize.ShloMosaic.Lib.Claim
public import Idealize.ShloMosaic.Adequacy
public import Idealize.ShloMosaic.Init

@[expose] public section

noncomputable section

namespace Cert.Proof

open Idealize.ShloMosaic Idealize.SL.Sem

theorem frame_ref : Cert.quiescent_ReferenceIdeal := by
  intro m g _
  exact (θ_run Cert.ReferenceIdeal.defs _ _).mono
    (fun r h => ⟨fun c => (h c).2, Idealize.ShloMosaic.sem_eq_zero_of_no_sems (by decide) r.2⟩) (Cert.ReferenceIdeal.Value.run m g)

theorem frame_ref2 : Cert.quiescent_Reference2Ideal := by
  intro m g _
  exact (θ_run Cert.Reference2Ideal.defs _ _).mono
    (fun r h => ⟨fun c => (h c).2, Idealize.ShloMosaic.sem_eq_zero_of_no_sems (by decide) r.2⟩) (Cert.Reference2Ideal.Value.run m g)

theorem frame_ref3 : Cert.quiescent_Reference3Ideal := by
  intro m g _
  exact (θ_run Cert.Reference3Ideal.defs _ _).mono
    (fun r h => ⟨fun c => (h c).2.2, Idealize.ShloMosaic.sem_eq_zero_of_no_sems (by decide) r.2⟩) (Cert.Reference3Ideal.Value.run m g)

theorem frame_ref4 : Cert.quiescent_Reference4Ideal := by
  intro m g _
  exact (θ_run Cert.Reference4Ideal.defs _ _).mono
    (fun r h => ⟨fun c => (h c).2, Idealize.ShloMosaic.sem_eq_zero_of_no_sems (by decide) r.2⟩) (Cert.Reference4Ideal.Value.run m g)

/-- The reference's result is the attention's, as the kernel's is. -/
theorem ref_attn (x0 : FVec Ideal Cert.ReferenceIdeal.S1x17408x1536 .bf16) (x1 : FVec Ideal Cert.ReferenceIdeal.S16 .f32) (hf : Cert.Band.Fine x0 x1) :
    Cert.KernelIdeal.Mine.attn x0 x1 = Cert.ReferenceIdeal.Read.val_main_v120 (F := Ideal) x0 x1 := by
  funext y
  idx_vars y
  obtain rfl : y0 = (0 : Fin 1) := Subsingleton.elim _ _
  exact (Cert.ReferenceIdeal.Mine.ref_at x0 x1 hf y1 y2).symm

theorem value1 (hp : Cert.Pre_finite.Facts) : Cert.algebraic_KernelIdeal_ReferenceIdeal_pre_finite := by
  pair_intro
  · run_from Cert.KernelIdeal.Gen.run_main m g
  · run_from Cert.ReferenceIdeal.Value.run m' g'
    have hf := Cert.Pre_finite.Mine.fine _ _ (hpre c)
    rw [Cert.KernelIdeal.Mine.final m c hf, ref_attn _ _ hf]
    obtain ⟨h0, h1⟩ := hagree c
    rw [← h0, ← h1]
    rfl

theorem value2 : Cert.algebraic_Kernel2Ideal_Reference2Ideal := by
  pair_intro
  · run_from Cert.Kernel2Ideal.Gen.run_main m g
  · run_from Cert.Reference2Ideal.Value.run m' g'
    rw [Cert.Kernel2Ideal.Mine.final m c]
    obtain ⟨h0, h1, h2, h3, h4, h5, h6⟩ := hagree c
    rw [← h0, ← h1, ← h2, ← h3, ← h4, ← h5, ← h6]
    rfl

theorem value3 : Cert.algebraic_Kernel3Ideal_Reference3Ideal := by
  pair_intro
  · run_from Cert.Kernel3Ideal.Gen.run_main m g
  · run_from Cert.Reference3Ideal.Value.run m' g'
    · rw [Cert.Kernel3Ideal.Mine.final3 m c]
      obtain ⟨h0, h1, h2⟩ := hagree c
      rw [← h0, ← h1, ← h2]
      rfl
    · rw [Cert.Kernel3Ideal.Mine.final4 m c]
      rfl

set_option maxHeartbeats 4000000 in
theorem value4 (hp : Cert.Pre_finite4.Facts) : Cert.algebraic_Kernel4Ideal_Reference4Ideal_pre_finite4 := by
  pair_intro
  · run_from Cert.Kernel4Ideal.Gen.run_main m g
  · run_from Cert.Reference4Ideal.Value.run m' g'
    have hf := Cert.Pre_finite4.Mine.fine _ _ _ _ _ _ _ _ _ _ _ _ (hpre c)
    rw [Cert.Kernel4Ideal.Mine.final m c hf]
    obtain ⟨h0, h1, h2, h3, h4, h5, h6, h7, h8, h9, h10, h11⟩ := hagree c
    unfold Cert.Kernel4Ideal.Mine.goal
    rw [← h0, ← h1, ← h2, ← h3, ← h4, ← h5, ← h6, ← h7, ← h8, ← h9, ← h10, ← h11]
    rfl

theorem claim : Cert.Claim := ⟨Cert.Kernel.Gen.facts, Cert.KernelIdeal.Gen.facts, Cert.ReferenceIdeal.Gen.facts,
  Cert.Kernel2.Gen.facts, Cert.Kernel2Ideal.Gen.facts, Cert.Reference2Ideal.Gen.facts,
  Cert.Kernel3.Gen.facts, Cert.Kernel3Ideal.Gen.facts, Cert.Reference3Ideal.Gen.facts,
  Cert.Kernel4.Gen.facts, Cert.Kernel4Ideal.Gen.facts, Cert.Reference4Ideal.Gen.facts, Cert.Pre_finite.Mine.facts, Cert.Pre_finite4.Mine.facts,
  fun m ρ _ => Cert.Kernel.Gen.frame m ρ, fun m ρ _ => Cert.KernelIdeal.Gen.frame m ρ, fun m ρ _ => Cert.KernelIdeal.Gen.frame m ρ,
  frame_ref, fun m ρ _ => frame_ref m ρ trivial,
  fun m ρ _ => Cert.Kernel2.Gen.frame m ρ, fun m ρ _ => Cert.Kernel2Ideal.Gen.frame m ρ, frame_ref2,
  fun m ρ _ => Cert.Kernel3.Gen.frame m ρ, fun m ρ _ => Cert.Kernel3Ideal.Gen.frame m ρ, frame_ref3,
  fun m ρ _ => Cert.Kernel4.Gen.frame m ρ, fun m ρ _ => Cert.Kernel4Ideal.Gen.frame m ρ, fun m ρ _ => Cert.Kernel4Ideal.Gen.frame m ρ,
  frame_ref4, fun m ρ _ => frame_ref4 m ρ trivial,
  IdealRules.named_const.statement Cert.KernelIdeal.κ "mask" .f32 0xF149F2CA#32 ⊥ rfl, value1 Cert.Pre_finite.Mine.facts,
  trivial, value2, trivial, value3, trivial, value4 Cert.Pre_finite4.Mine.facts⟩

end Cert.Proof
end
